-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S12x16x8192x64 : Shape := ⟨4, ![12, 16, 8192, 64]⟩
abbrev S12x16x8192 : Shape := ⟨3, ![12, 16, 8192]⟩
abbrev S12x16x64x64 : Shape := ⟨4, ![12, 16, 64, 64]⟩
abbrev S_ : Shape := ⟨0, ![]⟩

class Facts : Prop where
  natLt_8_32 : 8 < 32
  bcast_S_S12x16x8192x64 : S_.BroadcastsInDim S12x16x8192x64 (![] : Fin 0 → Fin S12x16x8192x64.rank)
  bcast_S_S12x16x8192 : S_.BroadcastsInDim S12x16x8192 (![] : Fin 0 → Fin S12x16x8192.rank)
  bcast_S_S12x16x64x64 : S_.BroadcastsInDim S12x16x64x64 (![] : Fin 0 → Fin S12x16x64x64.rank)

variable [Facts]

def fn_part2 {F : FTy → Type} [FloatOps F] (main_v4 : IVec S12x16x8192x64 1) (main_v9 : IVec S12x16x8192x64 1) (main_v14 : IVec S12x16x8192x64 1) (main_v17 : IVec S12x16x8192 1) (main_v20 : IVec S12x16x8192 1) (main_v23 : IVec S12x16x8192 1) (main_v26 : IVec S12x16x8192x64 1) (main_v29 : IVec S12x16x8192x64 1) (main_v32 : IVec S12x16x8192x64 1) (main_v33 : FVec F S12x16x64x64 .f32) (main_v34 : FVec F S12x16x64x64 .f32) : IVec S12x16x8192x64 1 × IVec S12x16x8192x64 1 × IVec S12x16x8192x64 1 × IVec S12x16x8192 1 × IVec S12x16x8192 1 × IVec S12x16x8192 1 × IVec S12x16x8192x64 1 × IVec S12x16x8192x64 1 × IVec S12x16x8192x64 1 × IVec S12x16x64x64 1 :=
  let main_v35 : IVec S12x16x64x64 1 := cmpf .olt main_v33 main_v34
  (main_v4, main_v9, main_v14, main_v17, main_v20, main_v23, main_v26, main_v29, main_v32, main_v35)

def fn_part1 {F : FTy → Type} [FloatOps F] (main_arg4 : FVec F S12x16x8192 .f32) (main_arg5 : FVec F S12x16x8192 .f32) (main_arg6 : FVec F S12x16x8192x64 .bf16) (main_arg7 : FVec F S12x16x8192x64 .bf16) (main_arg8 : FVec F S12x16x8192x64 .bf16) (main_arg9 : FVec F S12x16x64x64 .f32) (main_v4 : IVec S12x16x8192x64 1) (main_v9 : IVec S12x16x8192x64 1) (main_v14 : IVec S12x16x8192x64 1) (main_v15 : FVec F S12x16x8192 .f32) (main_v16 : FVec F S12x16x8192 .f32) : IVec S12x16x8192x64 1 × IVec S12x16x8192x64 1 × IVec S12x16x8192x64 1 × IVec S12x16x8192 1 × IVec S12x16x8192 1 × IVec S12x16x8192 1 × IVec S12x16x8192x64 1 × IVec S12x16x8192x64 1 × IVec S12x16x8192x64 1 × IVec S12x16x64x64 1 :=
  let main_v17 : IVec S12x16x8192 1 := cmpf .olt main_v15 main_v16
  let main_v18 : FVec F S12x16x8192 .f32 := Host.absf main_arg4
  let main_cst_5 : FVec F S_ .f32 := constant S_ .f32 0x7F800000#32
  let main_v19 : FVec F S12x16x8192 .f32 := broadcastInDim S12x16x8192 ![] bcast_S_S12x16x8192 main_cst_5
  let main_v20 : IVec S12x16x8192 1 := cmpf .olt main_v18 main_v19
  let main_v21 : FVec F S12x16x8192 .f32 := Host.absf main_arg5
  let main_cst_6 : FVec F S_ .f32 := constant S_ .f32 0x7F800000#32
  let main_v22 : FVec F S12x16x8192 .f32 := broadcastInDim S12x16x8192 ![] bcast_S_S12x16x8192 main_cst_6
  let main_v23 : IVec S12x16x8192 1 := cmpf .olt main_v21 main_v22
  let main_v24 : FVec F S12x16x8192x64 .bf16 := Host.absf main_arg6
  let main_cst_7 : FVec F S_ .bf16 := constant S_ .bf16 0x7F80#16
  let main_v25 : FVec F S12x16x8192x64 .bf16 := broadcastInDim S12x16x8192x64 ![] bcast_S_S12x16x8192x64 main_cst_7
  let main_v26 : IVec S12x16x8192x64 1 := cmpf .olt main_v24 main_v25
  let main_v27 : FVec F S12x16x8192x64 .bf16 := Host.absf main_arg7
  let main_cst_8 : FVec F S_ .bf16 := constant S_ .bf16 0x7F80#16
  let main_v28 : FVec F S12x16x8192x64 .bf16 := broadcastInDim S12x16x8192x64 ![] bcast_S_S12x16x8192x64 main_cst_8
  let main_v29 : IVec S12x16x8192x64 1 := cmpf .olt main_v27 main_v28
  let main_v30 : FVec F S12x16x8192x64 .bf16 := Host.absf main_arg8
  let main_cst_9 : FVec F S_ .bf16 := constant S_ .bf16 0x7F80#16
  let main_v31 : FVec F S12x16x8192x64 .bf16 := broadcastInDim S12x16x8192x64 ![] bcast_S_S12x16x8192x64 main_cst_9
  let main_v32 : IVec S12x16x8192x64 1 := cmpf .olt main_v30 main_v31
  let main_v33 : FVec F S12x16x64x64 .f32 := Host.absf main_arg9
  let main_cst_10 : FVec F S_ .f32 := constant S_ .f32 0x7F800000#32
  let main_v34 : FVec F S12x16x64x64 .f32 := broadcastInDim S12x16x64x64 ![] bcast_S_S12x16x64x64 main_cst_10
  fn_part2 (F := F) main_v4 main_v9 main_v14 main_v17 main_v20 main_v23 main_v26 main_v29 main_v32 main_v33 main_v34

def fn {F : FTy → Type} [FloatOps F] (main_arg0 : IVec S12x16x8192x64 8) (main_arg1 : IVec S12x16x8192x64 8) (main_arg2 : IVec S12x16x8192x64 8) (main_arg3 : FVec F S12x16x8192 .f32) (main_arg4 : FVec F S12x16x8192 .f32) (main_arg5 : FVec F S12x16x8192 .f32) (main_arg6 : FVec F S12x16x8192x64 .bf16) (main_arg7 : FVec F S12x16x8192x64 .bf16) (main_arg8 : FVec F S12x16x8192x64 .bf16) (main_arg9 : FVec F S12x16x64x64 .f32) : IVec S12x16x8192x64 1 × IVec S12x16x8192x64 1 × IVec S12x16x8192x64 1 × IVec S12x16x8192 1 × IVec S12x16x8192 1 × IVec S12x16x8192 1 × IVec S12x16x8192x64 1 × IVec S12x16x8192x64 1 × IVec S12x16x8192x64 1 × IVec S12x16x64x64 1 :=
  let main_v0 : IVec S12x16x8192x64 32 := (extui 32 · natLt_8_32) main_arg0
  let main_c : IVec S_ 32 := constantI S_ 32 127#32
  let main_v1 : IVec S12x16x8192x64 32 := broadcastInDim S12x16x8192x64 ![] bcast_S_S12x16x8192x64 main_c
  let main_v2 : IVec S12x16x8192x64 32 := andi main_v0 main_v1
  let main_c_0 : IVec S_ 32 := constantI S_ 32 127#32
  let main_v3 : IVec S12x16x8192x64 32 := broadcastInDim S12x16x8192x64 ![] bcast_S_S12x16x8192x64 main_c_0
  let main_v4 : IVec S12x16x8192x64 1 := cmpi .ne main_v2 main_v3
  let main_v5 : IVec S12x16x8192x64 32 := (extui 32 · natLt_8_32) main_arg1
  let main_c_1 : IVec S_ 32 := constantI S_ 32 127#32
  let main_v6 : IVec S12x16x8192x64 32 := broadcastInDim S12x16x8192x64 ![] bcast_S_S12x16x8192x64 main_c_1
  let main_v7 : IVec S12x16x8192x64 32 := andi main_v5 main_v6
  let main_c_2 : IVec S_ 32 := constantI S_ 32 127#32
  let main_v8 : IVec S12x16x8192x64 32 := broadcastInDim S12x16x8192x64 ![] bcast_S_S12x16x8192x64 main_c_2
  let main_v9 : IVec S12x16x8192x64 1 := cmpi .ne main_v7 main_v8
  let main_v10 : IVec S12x16x8192x64 32 := (extui 32 · natLt_8_32) main_arg2
  let main_c_3 : IVec S_ 32 := constantI S_ 32 127#32
  let main_v11 : IVec S12x16x8192x64 32 := broadcastInDim S12x16x8192x64 ![] bcast_S_S12x16x8192x64 main_c_3
  let main_v12 : IVec S12x16x8192x64 32 := andi main_v10 main_v11
  let main_c_4 : IVec S_ 32 := constantI S_ 32 127#32
  let main_v13 : IVec S12x16x8192x64 32 := broadcastInDim S12x16x8192x64 ![] bcast_S_S12x16x8192x64 main_c_4
  let main_v14 : IVec S12x16x8192x64 1 := cmpi .ne main_v12 main_v13
  let main_v15 : FVec F S12x16x8192 .f32 := Host.absf main_arg3
  let main_cst : FVec F S_ .f32 := constant S_ .f32 0x7F800000#32
  let main_v16 : FVec F S12x16x8192 .f32 := broadcastInDim S12x16x8192 ![] bcast_S_S12x16x8192 main_cst
  fn_part1 (F := F) main_arg4 main_arg5 main_arg6 main_arg7 main_arg8 main_arg9 main_v4 main_v9 main_v14 main_v15 main_v16
-- ==== Kernel.lean ====
abbrev S12x16x8192x64 : Shape := ⟨4, ![12, 16, 8192, 64]⟩
abbrev S12x16x8192 : Shape := ⟨3, ![12, 16, 8192]⟩
abbrev S12x16x64x64 : Shape := ⟨4, ![12, 16, 64, 64]⟩
abbrev S12x16x64x8192 : Shape := ⟨4, ![12, 16, 64, 8192]⟩
abbrev S192x64x8192 : Shape := ⟨3, ![192, 64, 8192]⟩
abbrev S192x8192 : Shape := ⟨2, ![192, 8192]⟩
abbrev S192x64x64 : Shape := ⟨3, ![192, 64, 64]⟩
abbrev S8x64x128 : Shape := ⟨3, ![8, 64, 128]⟩
abbrev S8x128 : Shape := ⟨2, ![8, 128]⟩
abbrev S8x64x64 : Shape := ⟨3, ![8, 64, 64]⟩
abbrev S1x64x128 : Shape := ⟨3, ![1, 64, 128]⟩
abbrev S64x128 : Shape := ⟨2, ![64, 128]⟩
abbrev S1x128 : Shape := ⟨2, ![1, 128]⟩
abbrev S1x64x64 : Shape := ⟨3, ![1, 64, 64]⟩
abbrev S64x64 : Shape := ⟨2, ![64, 64]⟩
abbrev S128x128 : Shape := ⟨2, ![128, 128]⟩
abbrev S64x384 : Shape := ⟨2, ![64, 384]⟩
abbrev S384x128 : Shape := ⟨2, ![384, 128]⟩
abbrev S128x64 : Shape := ⟨2, ![128, 64]⟩
abbrev S32x128 : Shape := ⟨2, ![32, 128]⟩
abbrev S8x128x1 : Shape := ⟨3, ![8, 128, 1]⟩
abbrev S32x256 : Shape := ⟨2, ![32, 256]⟩
abbrev S256x128 : Shape := ⟨2, ![256, 128]⟩
abbrev S64x192 : Shape := ⟨2, ![64, 192]⟩
abbrev S192x128 : Shape := ⟨2, ![192, 128]⟩
abbrev S1x64 : Shape := ⟨2, ![1, 64]⟩
abbrev S192x64 : Shape := ⟨2, ![192, 64]⟩

abbrev nBuf : Space → Nat
  | .hbm => 31
  | .vmem => 25
  | .smem => 0
  | _ => 0

abbrev bufTy : (tb : Table) → Fin (tcTables nBuf tb) → BufTy
  | .hbm, ⟨0, _⟩ => ⟨S12x16x8192x64, .i8⟩
  | .hbm, ⟨1, _⟩ => ⟨S12x16x8192x64, .i8⟩
  | .hbm, ⟨2, _⟩ => ⟨S12x16x8192x64, .i8⟩
  | .hbm, ⟨3, _⟩ => ⟨S12x16x8192, .f32⟩
  | .hbm, ⟨4, _⟩ => ⟨S12x16x8192, .f32⟩
  | .hbm, ⟨5, _⟩ => ⟨S12x16x8192, .f32⟩
  | .hbm, ⟨6, _⟩ => ⟨S12x16x8192x64, .bf16⟩
  | .hbm, ⟨7, _⟩ => ⟨S12x16x8192x64, .bf16⟩
  | .hbm, ⟨8, _⟩ => ⟨S12x16x8192x64, .bf16⟩
  | .hbm, ⟨9, _⟩ => ⟨S12x16x64x64, .f32⟩
  | .hbm, ⟨10, _⟩ => ⟨S12x16x8192x64, .fp8e4m3⟩
  | .hbm, ⟨11, _⟩ => ⟨S12x16x8192x64, .fp8e4m3⟩
  | .hbm, ⟨12, _⟩ => ⟨S12x16x8192x64, .fp8e4m3⟩
  | .hbm, ⟨13, _⟩ => ⟨S12x16x64x8192, .fp8e4m3⟩
  | .hbm, ⟨14, _⟩ => ⟨S192x64x8192, .fp8e4m3⟩
  | .hbm, ⟨15, _⟩ => ⟨S12x16x64x8192, .fp8e4m3⟩
  | .hbm, ⟨16, _⟩ => ⟨S192x64x8192, .fp8e4m3⟩
  | .hbm, ⟨17, _⟩ => ⟨S12x16x64x8192, .fp8e4m3⟩
  | .hbm, ⟨18, _⟩ => ⟨S192x64x8192, .fp8e4m3⟩
  | .hbm, ⟨19, _⟩ => ⟨S192x8192, .f32⟩
  | .hbm, ⟨20, _⟩ => ⟨S192x8192, .f32⟩
  | .hbm, ⟨21, _⟩ => ⟨S192x8192, .f32⟩
  | .hbm, ⟨22, _⟩ => ⟨S12x16x64x8192, .bf16⟩
  | .hbm, ⟨23, _⟩ => ⟨S192x64x8192, .bf16⟩
  | .hbm, ⟨24, _⟩ => ⟨S12x16x64x8192, .bf16⟩
  | .hbm, ⟨25, _⟩ => ⟨S192x64x8192, .bf16⟩
  | .hbm, ⟨26, _⟩ => ⟨S12x16x64x8192, .bf16⟩
  | .hbm, ⟨27, _⟩ => ⟨S192x64x8192, .bf16⟩
  | .hbm, ⟨28, _⟩ => ⟨S192x64x64, .f32⟩
  | .hbm, ⟨29, _⟩ => ⟨S192x64x8192, .bf16⟩
  | .hbm, ⟨30, _⟩ => ⟨S192x64x64, .f32⟩
  | .local _ .vmem, ⟨0, _⟩ => ⟨S8x64x128, .fp8e4m3⟩
  | .local _ .vmem, ⟨1, _⟩ => ⟨S8x64x128, .fp8e4m3⟩
  | .local _ .vmem, ⟨2, _⟩ => ⟨S8x64x128, .fp8e4m3⟩
  | .local _ .vmem, ⟨3, _⟩ => ⟨S8x64x128, .fp8e4m3⟩
  | .local _ .vmem, ⟨4, _⟩ => ⟨S8x64x128, .fp8e4m3⟩
  | .local _ .vmem, ⟨5, _⟩ => ⟨S8x64x128, .fp8e4m3⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x64x128, .bf16⟩
  | .local _ .vmem, ⟨13, _⟩ => ⟨S8x64x128, .bf16⟩
  | .local _ .vmem, ⟨14, _⟩ => ⟨S8x64x128, .bf16⟩
  | .local _ .vmem, ⟨15, _⟩ => ⟨S8x64x128, .bf16⟩
  | .local _ .vmem, ⟨16, _⟩ => ⟨S8x64x128, .bf16⟩
  | .local _ .vmem, ⟨17, _⟩ => ⟨S8x64x128, .bf16⟩
  | .local _ .vmem, ⟨18, _⟩ => ⟨S8x64x64, .f32⟩
  | .local _ .vmem, ⟨19, _⟩ => ⟨S8x64x64, .f32⟩
  | .local _ .vmem, ⟨20, _⟩ => ⟨S8x64x128, .bf16⟩
  | .local _ .vmem, ⟨21, _⟩ => ⟨S8x64x128, .bf16⟩
  | .local _ .vmem, ⟨22, _⟩ => ⟨S8x64x64, .f32⟩
  | .local _ .vmem, ⟨23, _⟩ => ⟨S8x64x64, .f32⟩
  | .local _ .vmem, ⟨24, _⟩ => ⟨S8x64x64, .f32⟩
  | _, _ => ⟨S12x16x8192x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![24, 64], ![false, false]⟩

def k0_cond2 (i : grid0.Coords) : BitVec 1 :=
  let arg1 : BitVec 32 := BitVec.ofNat 32 (i 1).val
  let c63_i32 : BitVec 32 := 63#32
  let v15323 : BitVec 1 := Scalar.cmpi .eq arg1 c63_i32
  let v15324 : BitVec 32 := Scalar.extui v15323
  let c0_i32_3014 : BitVec 32 := 0#32
  let v15325 : BitVec 1 := Scalar.cmpi .ne v15324 c0_i32_3014
  v15325

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S12x16x8192x64 : Shape := ⟨4, ![12, 16, 8192, 64]⟩
abbrev S12x16x8192 : Shape := ⟨3, ![12, 16, 8192]⟩
abbrev S12x16x64x64 : Shape := ⟨4, ![12, 16, 64, 64]⟩
abbrev S192x8192x64 : Shape := ⟨3, ![192, 8192, 64]⟩
abbrev S8192x192x64 : Shape := ⟨3, ![8192, 192, 64]⟩
abbrev S192x8192 : Shape := ⟨2, ![192, 8192]⟩
abbrev S8192x192 : Shape := ⟨2, ![8192, 192]⟩
abbrev S192x64x64 : Shape := ⟨3, ![192, 64, 64]⟩
abbrev S192x64x8192 : Shape := ⟨3, ![192, 64, 8192]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S192x1 : Shape := ⟨2, ![192, 1]⟩
abbrev S192x1x64 : Shape := ⟨3, ![192, 1, 64]⟩
abbrev S192x64x1 : Shape := ⟨3, ![192, 64, 1]⟩

abbrev nBuf : Space → Nat
  | .hbm => 34
  | .vmem => 12
  | .smem => 0
  | _ => 0

abbrev bufTy : (tb : Table) → Fin (tcTables nBuf tb) → BufTy
  | .hbm, ⟨0, _⟩ => ⟨S12x16x8192x64, .i8⟩
  | .hbm, ⟨1, _⟩ => ⟨S12x16x8192x64, .i8⟩
  | .hbm, ⟨2, _⟩ => ⟨S12x16x8192x64, .i8⟩
  | .hbm, ⟨3, _⟩ => ⟨S12x16x8192, .f32⟩
  | .hbm, ⟨4, _⟩ => ⟨S12x16x8192, .f32⟩
  | .hbm, ⟨5, _⟩ => ⟨S12x16x8192, .f32⟩
  | .hbm, ⟨6, _⟩ => ⟨S12x16x8192x64, .bf16⟩
  | .hbm, ⟨7, _⟩ => ⟨S12x16x8192x64, .bf16⟩
  | .hbm, ⟨8, _⟩ => ⟨S12x16x8192x64, .bf16⟩
  | .hbm, ⟨9, _⟩ => ⟨S12x16x64x64, .f32⟩
  | .hbm, ⟨10, _⟩ => ⟨S12x16x8192x64, .fp8e4m3⟩
  | .hbm, ⟨11, _⟩ => ⟨S192x8192x64, .fp8e4m3⟩
  | .hbm, ⟨12, _⟩ => ⟨S8192x192x64, .fp8e4m3⟩
  | .hbm, ⟨13, _⟩ => ⟨S12x16x8192x64, .fp8e4m3⟩
  | .hbm, ⟨14, _⟩ => ⟨S192x8192x64, .fp8e4m3⟩
  | .hbm, ⟨15, _⟩ => ⟨S8192x192x64, .fp8e4m3⟩
  | .hbm, ⟨16, _⟩ => ⟨S12x16x8192x64, .fp8e4m3⟩
  | .hbm, ⟨17, _⟩ => ⟨S192x8192x64, .fp8e4m3⟩
  | .hbm, ⟨18, _⟩ => ⟨S8192x192x64, .fp8e4m3⟩
  | .hbm, ⟨19, _⟩ => ⟨S192x8192, .f32⟩
  | .hbm, ⟨20, _⟩ => ⟨S8192x192, .f32⟩
  | .hbm, ⟨21, _⟩ => ⟨S192x8192, .f32⟩
  | .hbm, ⟨22, _⟩ => ⟨S8192x192, .f32⟩
  | .hbm, ⟨23, _⟩ => ⟨S192x8192, .f32⟩
  | .hbm, ⟨24, _⟩ => ⟨S8192x192, .f32⟩
  | .hbm, ⟨25, _⟩ => ⟨S192x8192x64, .bf16⟩
  | .hbm, ⟨26, _⟩ => ⟨S8192x192x64, .bf16⟩
  | .hbm, ⟨27, _⟩ => ⟨S192x8192x64, .bf16⟩
  | .hbm, ⟨28, _⟩ => ⟨S8192x192x64, .bf16⟩
  | .hbm, ⟨29, _⟩ => ⟨S192x8192x64, .bf16⟩
  | .hbm, ⟨30, _⟩ => ⟨S8192x192x64, .bf16⟩
  | .hbm, ⟨31, _⟩ => ⟨S192x64x64, .f32⟩
  | .hbm, ⟨32, _⟩ => ⟨S192x64x8192, .bf16⟩
  | .hbm, ⟨33, _⟩ => ⟨S192x64x64, .f32⟩
  | .local _ .vmem, ⟨0, _⟩ => ⟨S8192x192x64, .fp8e4m3⟩
  | .local _ .vmem, ⟨1, _⟩ => ⟨S8192x192x64, .fp8e4m3⟩
  | .local _ .vmem, ⟨2, _⟩ => ⟨S8192x192x64, .fp8e4m3⟩
  | .local _ .vmem, ⟨3, _⟩ => ⟨S8192x192, .f32⟩
  | .local _ .vmem, ⟨4, _⟩ => ⟨S8192x192, .f32⟩
  | .local _ .vmem, ⟨5, _⟩ => ⟨S8192x192, .f32⟩
  | .local _ .vmem, ⟨6, _⟩ => ⟨S8192x192x64, .bf16⟩
  | .local _ .vmem, ⟨7, _⟩ => ⟨S8192x192x64, .bf16⟩
  | .local _ .vmem, ⟨8, _⟩ => ⟨S8192x192x64, .bf16⟩
  | .local _ .vmem, ⟨9, _⟩ => ⟨S192x64x64, .f32⟩
  | .local _ .vmem, ⟨10, _⟩ => ⟨S192x64x8192, .bf16⟩
  | .local _ .vmem, ⟨11, _⟩ => ⟨S192x64x64, .f32⟩
  | _, _ => ⟨S12x16x8192x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8192_i32 : BitVec 32 := 8192#32
  let v4 : BitVec 32 := Scalar.addi c0_i32 c8192_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v9 : Index := Scalar.indexCast arg12
  let c0_9 : Index := 0#32
  let c0_10 : Index := 0#32
  ![v9.toNat, 0, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let v13 : Index := Scalar.indexCast arg12
  let c0_11 : Index := 0#32
  ![v13.toNat, 0]
abbrev stage0_0 : Fin 1 → Memref sig .tc .vmem S8192x192x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x192x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x192x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x192x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x192x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x192x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S192x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S192x64x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S192x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Head.lean ====
/- One head's arithmetic at one grid point of the kernel, in named steps, at any float arithmetic `F`.
   The printed kernel repeats this text eight times; `Pieces.lean` shows that each of its stores holds what is named here. -/
module

public import proofs.«01_k».proof.Proof.Gen.KernelIdeal.Skeleton

@[expose] public section

set_option maxRecDepth 16384

noncomputable section

namespace Cert.KernelIdeal.Head

open Idealize.ShloMosaic Idealize.SL.Sem Cert.KernelIdeal Cert.KernelIdeal.Gen

/-! ### Index words and masks -/

/-- Floor division of a vector of words by `n`. -/
def fdiv {s : Shape} (x : IVec s 32) (n : BitVec 32) : IVec s 32 :=
  select
    (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- Remainder with the sign of the divisor, of a `[32, 128]` vector of words by `n`. -/
def pmod (x : IVec S32x128 32) (n : BitVec 32) : IVec S32x128 32 :=
  let n' : BitVec 32 := Scalar.select (Scalar.cmpi .eq n 0#32) 1#32 n
  let q : IVec S32x128 32 := remsi x (broadcast S32x128 n')
  select
    (andi (xori (cmpi .slt q (broadcast S32x128 0#32)) (broadcastTo S32x128 (broadcast S32x128 (Scalar.cmpi .slt n' 0#32)) broadcasts_S32x128_S32x128))
      (cmpi .ne q (broadcast S32x128 0#32)))
    (addi q (broadcast S32x128 n')) q

/-- Row at most column, within one chunk of 64. -/
def triMask : IVec S128x128 1 :=
  andi (cmpi .sle (iota .tc S128x128 32 [0] iota_S128x128_d0_w32) (iota .tc S128x128 32 [1] iota_S128x128_d1_w32))
    (cmpi .eq (fdiv (iota .tc S128x128 32 [0] iota_S128x128_d0_w32) 64#32) (fdiv (iota .tc S128x128 32 [1] iota_S128x128_d1_w32) 64#32))

/-- Row before column in the left half, row at most column in the right half. -/
def keepMask : IVec S64x128 1 :=
  cmpi .sle (iota .tc S64x128 32 [0] iota_S64x128_d0_w32)
    (select (cmpi .slt (iota .tc S64x128 32 [1] iota_S64x128_d1_w32) (broadcast S64x128 64#32))
      (subi (iota .tc S64x128 32 [1] iota_S64x128_d1_w32) (broadcast S64x128 1#32))
      (subi (iota .tc S64x128 32 [1] iota_S64x128_d1_w32) (broadcast S64x128 64#32)))

/-- The column's block of 32. -/
def blk : IVec S32x128 32 := fdiv (iota .tc S32x128 32 [1] iota_S32x128_d1_w32) 32#32

/-- The column's block is even. -/
def evenMask : IVec S32x128 1 := cmpi .eq (pmod blk 2#32) (broadcast S32x128 0#32)

/-- The row is the column's place within its block. -/
def idMask : IVec S32x128 1 :=
  cmpi .eq (iota .tc S32x128 32 [0] iota_S32x128_d0_w32) (pmod (iota .tc S32x128 32 [1] iota_S32x128_d1_w32) 32#32)

/-- The column's block is `n`. -/
def blkMask (n : BitVec 32) : IVec S32x128 1 := cmpi .eq blk (broadcast S32x128 n)

/-- The first column of the column's block, for eight rows. -/
def base : IVec S8x128 32 :=
  muli (fdiv (extractStridedSlice S8x128 ![0, 0] (iota .tc S32x128 32 [1] iota_S32x128_d1_w32) slices_S32x128_o0_0_S8x128) 32#32) (broadcast S8x128 32#32)

/-- Column `n` of the column's block, as the kernel's gather takes it. -/
def gidx (n : BitVec 32) : IVec S8x128 32 :=
  shapeCast S8x128 (shapeCast S8x128x1
    (select (cmpi .slt (addi base (broadcast S8x128 n)) (broadcast S8x128 0#32))
      (addi (addi base (broadcast S8x128 n)) (broadcast S8x128 128#32)) (addi base (broadcast S8x128 n)))
    shapeCasts_S8x128_S8x128x1) shapeCasts_S8x128x1_S8x128

variable {F : FTy → Type} [FloatOps F] [Named F]

/-! ### A float as three bfloat16 parts -/

/-- The leading part. -/
def p0 {s : Shape} (x : FVec F s .f32) : FVec F s .bf16 := truncf .bf16 x bitsLt_bf16_f32
/-- What the leading part leaves. -/
def rest {s : Shape} (x : FVec F s .f32) : FVec F s .f32 := subf x (extf .f32 (p0 x) bitsLt_bf16_f32)
/-- The middle part. -/
def p1 {s : Shape} (x : FVec F s .f32) : FVec F s .bf16 := p0 (rest x)
/-- The last part. -/
def p2 {s : Shape} (x : FVec F s .f32) : FVec F s .bf16 := p0 (rest (rest x))

/-! ### Products of split matrices -/

/-- [128, 64] by [64, 128]. -/
def dotG (x0 x1 x2 : FVec F S128x64 .bf16) (y0 y1 y2 : FVec F S64x128 .bf16) : FVec F S128x128 .f32 :=
  addf
    (addf
      (matmul dot_S128x128_S128x128_S128x128_1_0_0_1_n_n none (concatenate S128x128 1 [⟨S128x64, x0⟩, ⟨S128x64, x1⟩] concatenates_S128x64_S128x64_S128x128_d1) (concatenate S128x128 0 [⟨S64x128, y0⟩, ⟨S64x128, y0⟩] concatenates_S64x128_S64x128_S128x128_d0) (constant S128x128 .f32 0x00000000#32))
      (matmul dot_S128x128_S128x128_S128x128_1_0_0_1_n_n none (concatenate S128x128 1 [⟨S128x64, x2⟩, ⟨S128x64, x0⟩] concatenates_S128x64_S128x64_S128x128_d1) (concatenate S128x128 0 [⟨S64x128, y0⟩, ⟨S64x128, y1⟩] concatenates_S64x128_S64x128_S128x128_d0) (constant S128x128 .f32 0x00000000#32)))
    (matmul dot_S128x128_S128x128_S128x128_1_0_0_1_n_n none (concatenate S128x128 1 [⟨S128x64, x0⟩, ⟨S128x64, x1⟩] concatenates_S128x64_S128x64_S128x128_d1) (concatenate S128x128 0 [⟨S64x128, y2⟩, ⟨S64x128, y1⟩] concatenates_S64x128_S64x128_S128x128_d0) (constant S128x128 .f32 0x00000000#32))

/-- [64, 64] by [64, 128]. -/
def dotS (x0 x1 x2 : FVec F S64x64 .bf16) (y0 y1 y2 : FVec F S64x128 .bf16) : FVec F S64x128 .f32 :=
  addf
    (addf
      (matmul dot_S64x128_S128x128_S64x128_1_0_0_1_n_n none (concatenate S64x128 1 [⟨S64x64, x0⟩, ⟨S64x64, x1⟩] concatenates_S64x64_S64x64_S64x128_d1) (concatenate S128x128 0 [⟨S64x128, y0⟩, ⟨S64x128, y0⟩] concatenates_S64x128_S64x128_S128x128_d0) (constant S64x128 .f32 0x00000000#32))
      (matmul dot_S64x128_S128x128_S64x128_1_0_0_1_n_n none (concatenate S64x128 1 [⟨S64x64, x2⟩, ⟨S64x64, x0⟩] concatenates_S64x64_S64x64_S64x128_d1) (concatenate S128x128 0 [⟨S64x128, y0⟩, ⟨S64x128, y1⟩] concatenates_S64x128_S64x128_S128x128_d0) (constant S64x128 .f32 0x00000000#32)))
    (matmul dot_S64x128_S128x128_S64x128_1_0_0_1_n_n none (concatenate S64x128 1 [⟨S64x64, x0⟩, ⟨S64x64, x1⟩] concatenates_S64x64_S64x64_S64x128_d1) (concatenate S128x128 0 [⟨S64x128, y2⟩, ⟨S64x128, y1⟩] concatenates_S64x128_S64x128_S128x128_d0) (constant S64x128 .f32 0x00000000#32))

/-- [64, 64] by [64, 64]. -/
def dotU (x0 x1 x2 : FVec F S64x64 .bf16) (y0 y1 y2 : FVec F S64x64 .bf16) : FVec F S64x64 .f32 :=
  addf
    (addf
      (matmul dot_S64x128_S128x64_S64x64_1_0_0_1_n_n none (concatenate S64x128 1 [⟨S64x64, x0⟩, ⟨S64x64, x1⟩] concatenates_S64x64_S64x64_S64x128_d1) (concatenate S128x64 0 [⟨S64x64, y0⟩, ⟨S64x64, y0⟩] concatenates_S64x64_S64x64_S128x64_d0) (constant S64x64 .f32 0x00000000#32))
      (matmul dot_S64x128_S128x64_S64x64_1_0_0_1_n_n none (concatenate S64x128 1 [⟨S64x64, x2⟩, ⟨S64x64, x0⟩] concatenates_S64x64_S64x64_S64x128_d1) (concatenate S128x64 0 [⟨S64x64, y0⟩, ⟨S64x64, y1⟩] concatenates_S64x64_S64x64_S128x64_d0) (constant S64x64 .f32 0x00000000#32)))
    (matmul dot_S64x128_S128x64_S64x64_1_0_0_1_n_n none (concatenate S64x128 1 [⟨S64x64, x0⟩, ⟨S64x64, x1⟩] concatenates_S64x64_S64x64_S64x128_d1) (concatenate S128x64 0 [⟨S64x64, y2⟩, ⟨S64x64, y1⟩] concatenates_S64x64_S64x64_S128x64_d0) (constant S64x64 .f32 0x00000000#32))

/-- [32, 128] by [128, 128]. -/
def dotQ (x0 x1 x2 : FVec F S32x128 .bf16) (y0 y1 y2 : FVec F S128x128 .bf16) : FVec F S32x128 .f32 :=
  addf
    (addf
      (matmul dot_S32x256_S256x128_S32x128_1_0_0_1_n_n none (concatenate S32x256 1 [⟨S32x128, x0⟩, ⟨S32x128, x1⟩] concatenates_S32x128_S32x128_S32x256_d1) (concatenate S256x128 0 [⟨S128x128, y0⟩, ⟨S128x128, y0⟩] concatenates_S128x128_S128x128_S256x128_d0) (constant S32x128 .f32 0x00000000#32))
      (matmul dot_S32x256_S256x128_S32x128_1_0_0_1_n_n none (concatenate S32x256 1 [⟨S32x128, x2⟩, ⟨S32x128, x0⟩] concatenates_S32x128_S32x128_S32x256_d1) (concatenate S256x128 0 [⟨S128x128, y0⟩, ⟨S128x128, y1⟩] concatenates_S128x128_S128x128_S256x128_d0) (constant S32x128 .f32 0x00000000#32)))
    (matmul dot_S32x256_S256x128_S32x128_1_0_0_1_n_n none (concatenate S32x256 1 [⟨S32x128, x0⟩, ⟨S32x128, x1⟩] concatenates_S32x128_S32x128_S32x256_d1) (concatenate S256x128 0 [⟨S128x128, y2⟩, ⟨S128x128, y1⟩] concatenates_S128x128_S128x128_S256x128_d0) (constant S32x128 .f32 0x00000000#32))

/-- [64, 128] by [128, 128], one pass. -/
def dot3C (x0 x1 x2 : FVec F S64x128 .bf16) (y0 y1 y2 : FVec F S128x128 .bf16) : FVec F S64x128 .f32 :=
  matmul dot_S64x384_S384x128_S64x128_1_0_0_1_n_n none (concatenate S64x384 1 [⟨S64x128, x0⟩, ⟨S64x128, x1⟩, ⟨S64x128, x2⟩] concatenates_S64x128_S64x128_S64x128_S64x384_d1) (concatenate S384x128 0 [⟨S128x128, y0⟩, ⟨S128x128, y1⟩, ⟨S128x128, y2⟩] concatenates_S128x128_S128x128_S128x128_S384x128_d0) (constant S64x128 .f32 0x00000000#32)

/-- [64, 64] by [64, 128], one pass. -/
def dot3X (x0 x1 x2 : FVec F S64x64 .bf16) (y0 y1 y2 : FVec F S64x128 .bf16) : FVec F S64x128 .f32 :=
  matmul dot_S64x192_S192x128_S64x128_1_0_0_1_n_n none (concatenate S64x192 1 [⟨S64x64, x0⟩, ⟨S64x64, x1⟩, ⟨S64x64, x2⟩] concatenates_S64x64_S64x64_S64x64_S64x192_d1) (concatenate S192x128 0 [⟨S64x128, y0⟩, ⟨S64x128, y1⟩, ⟨S64x128, y2⟩] concatenates_S64x128_S64x128_S64x128_S192x128_d0) (constant S64x128 .f32 0x00000000#32)

/-- [64, 64] by [64, 64], one pass. -/
def dot3K (x0 x1 x2 : FVec F S64x64 .bf16) (y0 y1 y2 : FVec F S64x64 .bf16) : FVec F S64x64 .f32 :=
  matmul dot_S64x192_S192x64_S64x64_1_0_0_1_n_n none (concatenate S64x192 1 [⟨S64x64, x0⟩, ⟨S64x64, x1⟩, ⟨S64x64, x2⟩] concatenates_S64x64_S64x64_S64x64_S64x192_d1) (concatenate S192x64 0 [⟨S64x64, y0⟩, ⟨S64x64, y1⟩, ⟨S64x64, y2⟩] concatenates_S64x64_S64x64_S64x64_S192x64_d0) (constant S64x64 .f32 0x00000000#32)

/-! ### Decays and scaled operands, [64 channels, 128 tokens] -/

/-- `log2` of the decay. -/
def lwV (w : FVec F S64x128 .bf16) : FVec F S64x128 .f32 :=
  mulf (exp (extf .f32 w bitsLt_bf16_f32)) (broadcast S64x128 (Named.named κ "neg_log2e" 0xBFB8AA3B#32))
/-- The ones of `triMask`. -/
def triV : FVec F S128x128 .bf16 :=
  truncf .bf16 (select triMask (broadcast S128x128 (Scalar.ofBits .f32 0x3F800000#32)) (broadcast S128x128 (Scalar.ofBits .f32 0x00000000#32))) bitsLt_bf16_f32
/-- Running sum of `log2` of the decay within a chunk. -/
def cV (w : FVec F S64x128 .bf16) : FVec F S64x128 .f32 :=
  dot3C (p0 (lwV w)) (p1 (lwV w)) (p2 (lwV w)) triV triV triV
/-- The decay from the chunk's start through the token. -/
def PV (w : FVec F S64x128 .bf16) : FVec F S64x128 .f32 := exp2 (cV w)
/-- Its inverse. -/
def PinvV (w : FVec F S64x128 .bf16) : FVec F S64x128 .f32 :=
  exp2 (subf (broadcast S64x128 (Scalar.ofBits .f32 0x00000000#32)) (cV w))
/-- The decay from the chunk's start to before the token. -/
def PexV (w : FVec F S64x128 .bf16) : FVec F S64x128 .f32 := exp2 (subf (cV w) (lwV w))
/-- `kk` by the decay before the token. -/
def AV (w kk : FVec F S64x128 .bf16) : FVec F S64x128 .f32 := mulf (extf .f32 kk bitsLt_bf16_f32) (PexV w)
/-- `kk · iclr` by the inverse decay. -/
def BV (w kk ic : FVec F S64x128 .bf16) : FVec F S64x128 .f32 :=
  mulf (mulf (extf .f32 kk bitsLt_bf16_f32) (extf .f32 ic bitsLt_bf16_f32)) (PinvV w)
/-- The receptance by the decay. -/
def RV (w : FVec F S64x128 .bf16) (r : FVec F S64x128 .fp8e4m3) (rs : FVec F S1x128 .f32) : FVec F S64x128 .f32 :=
  mulf (mulf (extf .f32 r bitsLt_fp8e4m3_f32) (broadcastTo S64x128 rs broadcasts_S1x128_S64x128)) (PV w)
/-- The key by the inverse decay. -/
def KV (w : FVec F S64x128 .bf16) (k : FVec F S64x128 .fp8e4m3) (kvs : FVec F S1x128 .f32) : FVec F S64x128 .f32 :=
  mulf (mulf (extf .f32 k bitsLt_fp8e4m3_f32) (broadcastTo S64x128 kvs broadcasts_S1x128_S64x128)) (PinvV w)

/-! ### The two chunks of a block -/

/-- Rows 0 to 63 of the transpose. -/
def tr0 (p : FVec F S64x128 .bf16) : FVec F S64x64 .bf16 :=
  extractStridedSlice S64x64 ![0, 0] (transpose S128x64 [1, 0] p transposes_S64x128_p1_0_S128x64) slices_S128x64_o0_0_S64x64
/-- Rows 64 to 127 of the transpose. -/
def tr1 (p : FVec F S64x128 .bf16) : FVec F S64x64 .bf16 :=
  extractStridedSlice S64x64 ![64, 0] (transpose S128x64 [1, 0] p transposes_S64x128_p1_0_S128x64) slices_S128x64_o64_0_S64x64
/-- Columns 0 to 63. -/
def lf {φ : FTy} (p : FVec F S64x128 φ) : FVec F S64x64 φ := extractStridedSlice S64x64 ![0, 0] p slices_S64x128_o0_0_S64x64
/-- Columns 64 to 127. -/
def rt {φ : FTy} (p : FVec F S64x128 φ) : FVec F S64x64 φ := extractStridedSlice S64x64 ![0, 64] p slices_S64x128_o0_64_S64x64
/-- Two matrices side by side. -/
def side {φ : FTy} (a b : FVec F S64x64 φ) : FVec F S64x128 φ := concatenate S64x128 1 [⟨S64x64, a⟩, ⟨S64x64, b⟩] concatenates_S64x64_S64x64_S64x128_d1
/-- Two matrices one above the other. -/
def stack {φ : FTy} (a b : FVec F S64x64 φ) : FVec F S128x64 φ := concatenate S128x64 0 [⟨S64x64, a⟩, ⟨S64x64, b⟩] concatenates_S64x64_S64x64_S128x64_d0

/-- All inner products of a chunk: rows `B`, `K`, columns `A`, `R`. -/
def G0 (A B R K : FVec F S64x128 .f32) : FVec F S128x128 .f32 :=
  dotG (stack (tr0 (p0 B)) (tr0 (p0 K))) (stack (tr0 (p1 B)) (tr0 (p1 K))) (stack (tr0 (p2 B)) (tr0 (p2 K)))
    (side (lf (p0 A)) (lf (p0 R))) (side (lf (p1 A)) (lf (p1 R))) (side (lf (p2 A)) (lf (p2 R)))
/-- The same for the second chunk. -/
def G1 (A B R K : FVec F S64x128 .f32) : FVec F S128x128 .f32 :=
  dotG (stack (tr1 (p0 B)) (tr1 (p0 K))) (stack (tr1 (p1 B)) (tr1 (p1 K))) (stack (tr1 (p2 B)) (tr1 (p2 K)))
    (side (rt (p0 A)) (rt (p0 R))) (side (rt (p1 A)) (rt (p1 R))) (side (rt (p2 A)) (rt (p2 R)))
/-- The kept products of `B`. -/
def Gb (G : FVec F S128x128 .f32) : FVec F S64x128 .f32 :=
  select keepMask (extractStridedSlice S64x128 ![0, 0] G slices_S128x128_o0_0_S64x128) (broadcast S64x128 (Scalar.ofBits .f32 0x00000000#32))
/-- The kept products of `K`. -/
def Gk (G : FVec F S128x128 .f32) : FVec F S64x128 .f32 :=
  select keepMask (extractStridedSlice S64x128 ![64, 0] G slices_S128x128_o64_0_S64x128) (broadcast S64x128 (Scalar.ofBits .f32 0x00000000#32))

/-! ### The inverse of the triangular matrices, both chunks side by side -/

/-- Rows 0 to 31. -/
def top (M : FVec F S64x128 .f32) : FVec F S32x128 .f32 := extractStridedSlice S32x128 ![0, 0] M slices_S64x128_o0_0_S32x128
/-- The diagonal 32 × 32 blocks. -/
def DV (M : FVec F S64x128 .f32) : FVec F S32x128 .f32 :=
  select evenMask (top M) (extractStridedSlice S32x128 ![32, 0] M slices_S64x128_o32_0_S32x128)
/-- The blocks above the diagonal. -/
def FV (M : FVec F S64x128 .f32) : FVec F S32x128 .f32 :=
  select evenMask (broadcast S32x128 (Scalar.ofBits .f32 0x00000000#32)) (top M)
/-- Four identity matrices. -/
def N0 : FVec F S32x128 .f32 :=
  select idMask (broadcast S32x128 (Scalar.ofBits .f32 0x3F800000#32)) (broadcast S32x128 (Scalar.ofBits .f32 0x00000000#32))
/-- Eight rows from row `8 q`. -/
def rows8 (q : Fin 4) (N : FVec F S32x128 .f32) : FVec F S8x128 .f32 :=
  match q with
  | 0 => extractStridedSlice S8x128 ![0, 0] N slices_S32x128_o0_0_S8x128
  | 1 => extractStridedSlice S8x128 ![8, 0] N slices_S32x128_o8_0_S8x128
  | 2 => extractStridedSlice S8x128 ![16, 0] N slices_S32x128_o16_0_S8x128
  | 3 => extractStridedSlice S8x128 ![24, 0] N slices_S32x128_o24_0_S8x128
/-- A row lies within its matrix. -/
theorem slices_row {s : Nat} (h : s < 32) : S32x128.Slices ![s, 0] S1x128 :=
  ⟨rfl, fun a => by
    fin_cases a
    · show s + 1 ≤ 32; omega
    · show 0 + 128 ≤ 128; omega⟩
/-- Eight rows less column `s` of `D` times row `s` of `N`. -/
def upd (D N : FVec F S32x128 .f32) (s : Nat) (h : s < 32) (q : Fin 4) : FVec F S8x128 .f32 :=
  subf (rows8 q N) (mulf (dynamicGather 1 (rows8 q D) (gidx (BitVec.ofNat 32 s)))
    (broadcastTo S8x128 (extractStridedSlice S1x128 ![s, 0] N (slices_row h)) broadcasts_S1x128_S8x128))
/-- Four groups of eight rows. -/
def cat4 (a b c d : FVec F S8x128 .f32) : FVec F S32x128 .f32 :=
  concatenate S32x128 0 [⟨S8x128, a⟩, ⟨S8x128, b⟩, ⟨S8x128, c⟩, ⟨S8x128, d⟩] concatenates_S8x128_S8x128_S8x128_S8x128_S32x128_d0
/-- One step of the back substitution, on the first 8, 16, 24 or 32 rows. -/
def step1 (D N : FVec F S32x128 .f32) (s : Nat) (h : s < 32) : FVec F S32x128 .f32 :=
  cat4 (upd D N s h 0) (rows8 1 N) (rows8 2 N) (rows8 3 N)
@[inherit_doc step1] def step2 (D N : FVec F S32x128 .f32) (s : Nat) (h : s < 32) : FVec F S32x128 .f32 :=
  cat4 (upd D N s h 0) (upd D N s h 1) (rows8 2 N) (rows8 3 N)
@[inherit_doc step1] def step3 (D N : FVec F S32x128 .f32) (s : Nat) (h : s < 32) : FVec F S32x128 .f32 :=
  cat4 (upd D N s h 0) (upd D N s h 1) (upd D N s h 2) (rows8 3 N)
@[inherit_doc step1] def step4 (D N : FVec F S32x128 .f32) (s : Nat) (h : s < 32) : FVec F S32x128 .f32 :=
  cat4 (upd D N s h 0) (upd D N s h 1) (upd D N s h 2) (upd D N s h 3)
/-- The inverse after step 31. -/
def N_31 (D : FVec F S32x128 .f32) : FVec F S32x128 .f32 := step4 D N0 31 (by decide)
/-- The inverse after step 30. -/
def N_30 (D : FVec F S32x128 .f32) : FVec F S32x128 .f32 := step4 D (N_31 D) 30 (by decide)
/-- The inverse after step 29. -/
def N_29 (D : FVec F S32x128 .f32) : FVec F S32x128 .f32 := step4 D (N_30 D) 29 (by decide)
/-- The inverse after step 28. -/
def N_28 (D : FVec F S32x128 .f32) : FVec F S32x128 .f32 := step4 D (N_29 D) 28 (by decide)
/-- The inverse after step 27. -/
def N_27 (D : FVec F S32x128 .f32) : FVec F S32x128 .f32 := step4 D (N_28 D) 27 (by decide)
/-- The inverse after step 26. -/
def N_26 (D : FVec F S32x128 .f32) : FVec F S32x128 .f32 := step4 D (N_27 D) 26 (by decide)
/-- The inverse after step 25. -/
def N_25 (D : FVec F S32x128 .f32) : FVec F S32x128 .f32 := step4 D (N_26 D) 25 (by decide)
/-- The inverse after step 24. -/
def N_24 (D : FVec F S32x128 .f32) : FVec F S32x128 .f32 := step3 D (N_25 D) 24 (by decide)
/-- The inverse after step 23. -/
def N_23 (D : FVec F S32x128 .f32) : FVec F S32x128 .f32 := step3 D (N_24 D) 23 (by decide)
/-- The inverse after step 22. -/
def N_22 (D : FVec F S32x128 .f32) : FVec F S32x128 .f32 := step3 D (N_23 D) 22 (by decide)
/-- The inverse after step 21. -/
def N_21 (D : FVec F S32x128 .f32) : FVec F S32x128 .f32 := step3 D (N_22 D) 21 (by decide)
/-- The inverse after step 20. -/
def N_20 (D : FVec F S32x128 .f32) : FVec F S32x128 .f32 := step3 D (N_21 D) 20 (by decide)
/-- The inverse after step 19. -/
def N_19 (D : FVec F S32x128 .f32) : FVec F S32x128 .f32 := step3 D (N_20 D) 19 (by decide)
/-- The inverse after step 18. -/
def N_18 (D : FVec F S32x128 .f32) : FVec F S32x128 .f32 := step3 D (N_19 D) 18 (by decide)
/-- The inverse after step 17. -/
def N_17 (D : FVec F S32x128 .f32) : FVec F S32x128 .f32 := step3 D (N_18 D) 17 (by decide)
/-- The inverse after step 16. -/
def N_16 (D : FVec F S32x128 .f32) : FVec F S32x128 .f32 := step2 D (N_17 D) 16 (by decide)
/-- The inverse after step 15. -/
def N_15 (D : FVec F S32x128 .f32) : FVec F S32x128 .f32 := step2 D (N_16 D) 15 (by decide)
/-- The inverse after step 14. -/
def N_14 (D : FVec F S32x128 .f32) : FVec F S32x128 .f32 := step2 D (N_15 D) 14 (by decide)
/-- The inverse after step 13. -/
def N_13 (D : FVec F S32x128 .f32) : FVec F S32x128 .f32 := step2 D (N_14 D) 13 (by decide)
/-- The inverse after step 12. -/
def N_12 (D : FVec F S32x128 .f32) : FVec F S32x128 .f32 := step2 D (N_13 D) 12 (by decide)
/-- The inverse after step 11. -/
def N_11 (D : FVec F S32x128 .f32) : FVec F S32x128 .f32 := step2 D (N_12 D) 11 (by decide)
/-- The inverse after step 10. -/
def N_10 (D : FVec F S32x128 .f32) : FVec F S32x128 .f32 := step2 D (N_11 D) 10 (by decide)
/-- The inverse after step 9. -/
def N_9 (D : FVec F S32x128 .f32) : FVec F S32x128 .f32 := step2 D (N_10 D) 9 (by decide)
/-- The inverse after step 8. -/
def N_8 (D : FVec F S32x128 .f32) : FVec F S32x128 .f32 := step1 D (N_9 D) 8 (by decide)
/-- The inverse after step 7. -/
def N_7 (D : FVec F S32x128 .f32) : FVec F S32x128 .f32 := step1 D (N_8 D) 7 (by decide)
/-- The inverse after step 6. -/
def N_6 (D : FVec F S32x128 .f32) : FVec F S32x128 .f32 := step1 D (N_7 D) 6 (by decide)
/-- The inverse after step 5. -/
def N_5 (D : FVec F S32x128 .f32) : FVec F S32x128 .f32 := step1 D (N_6 D) 5 (by decide)
/-- The inverse after step 4. -/
def N_4 (D : FVec F S32x128 .f32) : FVec F S32x128 .f32 := step1 D (N_5 D) 4 (by decide)
/-- The inverse after step 3. -/
def N_3 (D : FVec F S32x128 .f32) : FVec F S32x128 .f32 := step1 D (N_4 D) 3 (by decide)
/-- The inverse after step 2. -/
def N_2 (D : FVec F S32x128 .f32) : FVec F S32x128 .f32 := step1 D (N_3 D) 2 (by decide)
/-- The inverse after step 1. -/
def N_1 (D : FVec F S32x128 .f32) : FVec F S32x128 .f32 := step1 D (N_2 D) 1 (by decide)

/-- The columns of block `n`, the others zero. -/
def only (n : BitVec 32) (p : FVec F S32x128 .bf16) : FVec F S32x128 .bf16 :=
  select (blkMask n) p (broadcast S32x128 (Scalar.ofBits .bf16 0x0000#16))
/-- Four blocks of 32 rows. -/
def cat4r (a b c d : FVec F S32x128 .bf16) : FVec F S128x128 .bf16 :=
  concatenate S128x128 0 [⟨S32x128, a⟩, ⟨S32x128, b⟩, ⟨S32x128, c⟩, ⟨S32x128, d⟩] concatenates_S32x128_S32x128_S32x128_S32x128_S128x128_d0
/-- Blocks 1 and 3 on the block diagonal. -/
def diag13 (p : FVec F S32x128 .bf16) : FVec F S128x128 .bf16 :=
  cat4r (broadcast S32x128 (Scalar.ofBits .bf16 0x0000#16)) (only 1#32 p) (broadcast S32x128 (Scalar.ofBits .bf16 0x0000#16)) (only 3#32 p)
/-- Blocks 1 and 3 one block above the diagonal. -/
def super13 (p : FVec F S32x128 .bf16) : FVec F S128x128 .bf16 :=
  cat4r (only 1#32 p) (broadcast S32x128 (Scalar.ofBits .bf16 0x0000#16)) (only 3#32 p) (broadcast S32x128 (Scalar.ofBits .bf16 0x0000#16))
/-- `F` by the lower inverses. -/
def QV (Fm N : FVec F S32x128 .f32) : FVec F S32x128 .f32 :=
  dotQ (p0 Fm) (p1 Fm) (p2 Fm) (diag13 (p0 N)) (diag13 (p1 N)) (diag13 (p2 N))
/-- The upper inverses by that. -/
def N12V (Q N : FVec F S32x128 .f32) : FVec F S32x128 .f32 :=
  dotQ (p0 N) (p1 N) (p2 N) (super13 (p0 Q)) (super13 (p1 Q)) (super13 (p2 Q))
/-- Both inverses, side by side. -/
def NfullV (N N12 : FVec F S32x128 .f32) : FVec F S64x128 .f32 :=
  concatenate S64x128 0
    [⟨S32x128, select evenMask N (subf (broadcast S32x128 (Scalar.ofBits .f32 0x00000000#32)) N12)⟩,
     ⟨S32x128, select evenMask (broadcast S32x128 (Scalar.ofBits .f32 0x00000000#32)) N⟩] concatenates_S32x128_S32x128_S64x128_d0
/-- Both inverses from both triangular matrices. -/
def inverseV (M : FVec F S64x128 .f32) : FVec F S64x128 .f32 :=
  NfullV (N_1 (DV M)) (N12V (QV (FV M) (N_1 (DV M))) (N_1 (DV M)))

/-! ### State and result of one chunk -/

/-- What the state and the values contribute. -/
def XYV (S : FVec F S64x64 .f32) (ar0 ar1 ar2 : FVec F S64x128 .bf16) (V : FVec F S64x64 .bf16) (Gk : FVec F S64x128 .f32) : FVec F S64x128 .f32 :=
  addf (dotS (p0 S) (p1 S) (p2 S) ar0 ar1 ar2) (dot3X V V V (p0 Gk) (p1 Gk) (p2 Gk))
/-- The removed directions. -/
def UV (XY : FVec F S64x128 .f32) (Ni : FVec F S64x64 .f32) : FVec F S64x64 .f32 :=
  dotU (p0 (lf XY)) (p1 (lf XY)) (p2 (lf XY)) (p0 Ni) (p1 Ni) (p2 Ni)
/-- The chunk's results. -/
def YV (XY : FVec F S64x128 .f32) (U Rb : FVec F S64x64 .f32) : FVec F S64x64 .f32 :=
  subf (rt XY) (dotU (p0 U) (p1 U) (p2 U) (p0 Rb) (p1 Rb) (p2 Rb))
/-- The state after the chunk. -/
def SV (S U : FVec F S64x64 .f32) (V k0 k1 k2 b0 b1 b2 : FVec F S64x64 .bf16) (row : FVec F S1x64 .f32) : FVec F S64x64 .f32 :=
  mulf (subf (addf S (dot3K V V V k0 k1 k2)) (dotU (p0 U) (p1 U) (p2 U) b0 b1 b2)) (broadcastTo S64x64 row broadcasts_S1x64_S64x64)

/-- The decay over the first chunk, as a row. -/
def row0 (P : FVec F S64x128 .f32) : FVec F S1x64 .f32 :=
  extractStridedSlice S1x64 ![63, 0] (transpose S128x64 [1, 0] P transposes_S64x128_p1_0_S128x64) slices_S128x64_o63_0_S1x64
/-- The decay over the second chunk, as a row. -/
def row1 (P : FVec F S64x128 .f32) : FVec F S1x64 .f32 :=
  extractStridedSlice S1x64 ![127, 0] (transpose S128x64 [1, 0] P transposes_S64x128_p1_0_S128x64) slices_S128x64_o127_0_S1x64

/-- Everything a block of 128 tokens gives from its scaled operands: results and states, chunk by chunk. -/
def M (A B R K : FVec F S64x128 .f32) : FVec F S64x128 .f32 := side (lf (Gb (G0 A B R K))) (lf (Gb (G1 A B R K)))
/-- First chunk: contributions of state and values. -/
def XY0 (A B R K : FVec F S64x128 .f32) (V : FVec F S64x128 .bf16) (S : FVec F S64x64 .f32) : FVec F S64x128 .f32 :=
  XYV S (side (lf (p0 A)) (lf (p0 R))) (side (lf (p1 A)) (lf (p1 R))) (side (lf (p2 A)) (lf (p2 R))) (lf V) (Gk (G0 A B R K))
/-- First chunk: removed directions. -/
def U0 (A B R K : FVec F S64x128 .f32) (V : FVec F S64x128 .bf16) (S : FVec F S64x64 .f32) : FVec F S64x64 .f32 :=
  UV (XY0 A B R K V S) (lf (inverseV (M A B R K)))
/-- First chunk: results. -/
def Y0 (A B R K : FVec F S64x128 .f32) (V : FVec F S64x128 .bf16) (S : FVec F S64x64 .f32) : FVec F S64x64 .f32 :=
  YV (XY0 A B R K V S) (U0 A B R K V S) (rt (Gb (G0 A B R K)))
/-- First chunk: state after it. -/
def S0 (P A B R K : FVec F S64x128 .f32) (V : FVec F S64x128 .bf16) (S : FVec F S64x64 .f32) : FVec F S64x64 .f32 :=
  SV S (U0 A B R K V S) (lf V) (tr0 (p0 K)) (tr0 (p1 K)) (tr0 (p2 K)) (tr0 (p0 B)) (tr0 (p1 B)) (tr0 (p2 B)) (row0 P)
/-- Second chunk: contributions of state and values. -/
def XY1 (A B R K : FVec F S64x128 .f32) (V : FVec F S64x128 .bf16) (S : FVec F S64x64 .f32) : FVec F S64x128 .f32 :=
  XYV S (side (rt (p0 A)) (rt (p0 R))) (side (rt (p1 A)) (rt (p1 R))) (side (rt (p2 A)) (rt (p2 R))) (rt V) (Gk (G1 A B R K))
/-- Second chunk: removed directions. -/
def U1 (A B R K : FVec F S64x128 .f32) (V : FVec F S64x128 .bf16) (S : FVec F S64x64 .f32) : FVec F S64x64 .f32 :=
  UV (XY1 A B R K V S) (rt (inverseV (M A B R K)))
/-- Second chunk: results. -/
def Y1 (A B R K : FVec F S64x128 .f32) (V : FVec F S64x128 .bf16) (S : FVec F S64x64 .f32) : FVec F S64x64 .f32 :=
  YV (XY1 A B R K V S) (U1 A B R K V S) (rt (Gb (G1 A B R K)))
/-- Second chunk: state after it. -/
def S1 (P A B R K : FVec F S64x128 .f32) (V : FVec F S64x128 .bf16) (S : FVec F S64x64 .f32) : FVec F S64x64 .f32 :=
  SV S (U1 A B R K V S) (rt V) (tr1 (p0 K)) (tr1 (p1 K)) (tr1 (p2 K)) (tr1 (p0 B)) (tr1 (p1 B)) (tr1 (p2 B)) (row1 P)

/-! ### What the head stores -/

section
variable (r k v : Vec F S1x64x128 .fp8e4m3) (rs ks vs : Vec F S1x128 .f32) (w kk ic : Vec F S1x64x128 .bf16) (S : Vec F S1x64x64 .f32)

/-- A loaded head as a matrix. -/
def sq {φ : FTy} (x : FVec F S1x64x128 φ) : FVec F S64x128 φ := shapeCast S64x128 x shapeCasts_S1x64x128_S64x128
/-- A loaded row of scales. -/
def sc (x : FVec F S1x128 .f32) : FVec F S1x128 .f32 := shapeCast S1x128 x shapeCasts_S1x128_S1x128
/-- The head's `A`. -/
def hA : FVec F S64x128 .f32 := AV (sq w) (sq kk)
/-- The head's `B`. -/
def hB : FVec F S64x128 .f32 := BV (sq w) (sq kk) (sq ic)
/-- The head's `R`. -/
def hR : FVec F S64x128 .f32 := RV (sq w) (sq r) (sc rs)
/-- The head's `K`. -/
def hK : FVec F S64x128 .f32 := KV (sq w) (sq k) (mulf (sc ks) (sc vs))
/-- The head's values. -/
def hV : FVec F S64x128 .bf16 := extf .bf16 (sq v) bitsLt_fp8e4m3_bf16
/-- The head's state at the block's start. -/
def hS : FVec F S64x64 .f32 := shapeCast S64x64 S shapeCasts_S1x64x64_S64x64
/-- The head's state after the first chunk. -/
def hS0 : FVec F S64x64 .f32 :=
  S0 (PV (sq w)) (hA w kk) (hB w kk ic) (hR r rs w) (hK k ks vs w) (hV v) (hS S)
/-- The head's results. -/
def headY : FVec F S1x64x128 .bf16 :=
  shapeCast S1x64x128
    (truncf .bf16
      (side (Y0 (hA w kk) (hB w kk ic) (hR r rs w) (hK k ks vs w) (hV v) (hS S))
        (Y1 (hA w kk) (hB w kk ic) (hR r rs w) (hK k ks vs w) (hV v) (hS0 r k v rs ks vs w kk ic S))) bitsLt_bf16_f32)
    shapeCasts_S64x128_S1x64x128
/-- The head's state after the block. -/
def headS : FVec F S1x64x64 .f32 :=
  shapeCast S1x64x64
    (S1 (PV (sq w)) (hA w kk) (hB w kk ic) (hR r rs w) (hK k ks vs w) (hV v) (hS0 r k v rs ks vs w kk ic S))
    shapeCasts_S64x64_S1x64x64
end

end Cert.KernelIdeal.Head

end
-- ==== Proof.Inverse.lean ====
/- The inverse of a unit upper triangular 64 × 64 matrix over the reals: back substitution on the two 32 × 32 diagonal
   blocks, and the block above the diagonal by two products. Four diagonal blocks (two matrices) lie side by side. -/
module

public import Mathlib.LinearAlgebra.Matrix.NonsingularInverse
public import Mathlib.Data.Real.Basic
public import Mathlib.Data.Matrix.Block

@[expose] public section

noncomputable section

namespace Wkv

open Finset

/-- Column `s` of the block that column `j` lies in. -/
def bcol (j : Fin 128) (s : Fin 32) : Fin 128 := ⟨32 * (j.val / 32) + s.val, by omega⟩

/-- One step of back substitution: every row less its entry in column `s` times row `s`. -/
def stepR (D N : Fin 32 → Fin 128 → ℝ) (s : Fin 32) : Fin 32 → Fin 128 → ℝ := fun i j => N i j - D i (bcol j s) * N s j

/-- Four identities. -/
def idR : Fin 32 → Fin 128 → ℝ := fun i j => if i.val = j.val % 32 then 1 else 0

/-- The substitution after `n` steps, from the last row upwards. -/
def NR (D : Fin 32 → Fin 128 → ℝ) : ℕ → Fin 32 → Fin 128 → ℝ
  | 0 => idR
  | n + 1 => stepR D (NR D n) ⟨31 - n, by omega⟩

/-- Each block is strictly upper triangular. -/
def Upper (D : Fin 32 → Fin 128 → ℝ) : Prop := ∀ (i : Fin 32) (j : Fin 128), j.val % 32 ≤ i.val → D i j = 0

/-- The column within its block. -/
theorem bcol_mod (j : Fin 128) (s : Fin 32) : (bcol j s).val % 32 = s.val := by
  show (32 * (j.val / 32) + s.val) % 32 = s.val; omega

/-- After n steps the last n rows and columns are inverted. -/
theorem NR_inv {D : Fin 32 → Fin 128 → ℝ} (hD : Upper D) : ∀ n ≤ 31, ∀ i j,
    NR D n i j = idR i j - ∑ s : Fin 32, if 32 - n ≤ s.val then D i (bcol j s) * NR D n s j else 0 := by
  intro n
  induction n with
  | zero =>
    intro _ i j
    rw [sum_eq_zero fun s _ => if_neg (by have := s.isLt; omega), sub_zero]; rfl
  | succ n ih =>
    intro hn i j
    have hkeep : ∀ s : Fin 32, 32 - (n + 1) ≤ s.val → NR D (n + 1) s j = NR D n s j := by
      intro s hs
      show NR D n s j - D s (bcol j ⟨31 - n, by omega⟩) * _ = _
      rw [hD s _ (by rw [bcol_mod]; show 31 - n ≤ s.val; omega), zero_mul, sub_zero]
    have h1 : ∀ s : Fin 32, (if 32 - (n + 1) ≤ s.val then D i (bcol j s) * NR D (n + 1) s j else 0)
        = (if 32 - n ≤ s.val then D i (bcol j s) * NR D n s j else 0)
          + (if s = ⟨31 - n, by omega⟩ then D i (bcol j s) * NR D n s j else 0) := by
      intro s
      by_cases h : 32 - (n + 1) ≤ s.val
      · rw [if_pos h, hkeep s h]
        by_cases h' : 32 - n ≤ s.val
        · rw [if_pos h', if_neg (by intro e; have := congrArg Fin.val e; simp only at this; omega), add_zero]
        · rw [if_neg h', if_pos (by apply Fin.ext; show s.val = 31 - n; omega), zero_add]
      · rw [if_neg h, if_neg (by omega), if_neg (by intro e; have := congrArg Fin.val e; simp only at this; omega), add_zero]
    rw [sum_congr rfl fun s _ => h1 s, sum_add_distrib, sum_ite_eq' univ, if_pos (mem_univ _)]
    show NR D n i j - D i (bcol j ⟨31 - n, by omega⟩) * NR D n ⟨31 - n, by omega⟩ j = _
    rw [ih (by omega) i j]
    ring

/-- The finished substitution inverts every block. -/
theorem NR_spec {D : Fin 32 → Fin 128 → ℝ} (hD : Upper D) (i : Fin 32) (j : Fin 128) :
    NR D 31 i j + ∑ s : Fin 32, D i (bcol j s) * NR D 31 s j = idR i j := by
  have h := NR_inv hD 31 le_rfl i j
  have h1 : ∀ s : Fin 32, (if 32 - 31 ≤ s.val then D i (bcol j s) * NR D 31 s j else 0) = D i (bcol j s) * NR D 31 s j := by
    intro s
    by_cases hs : 32 - 31 ≤ s.val
    · rw [if_pos hs]
    · rw [if_neg hs, hD i _ (by rw [bcol_mod]; omega), zero_mul]
  rw [sum_congr rfl fun s _ => h1 s] at h
  rw [h]
  have := h
  linarith

/-- Block `β` as a matrix. -/
def blkR (N : Fin 32 → Fin 128 → ℝ) (β : Fin 4) : Matrix (Fin 32) (Fin 32) ℝ := fun i j => N i ⟨32 * β.val + j.val, by omega⟩

/-- After all steps each block is inverted. -/
theorem blk_inv {D : Fin 32 → Fin 128 → ℝ} (hD : Upper D) (β : Fin 4) : (1 + blkR D β) * blkR (NR D 31) β = 1 := by
  ext i j
  rw [add_mul, one_mul, Matrix.add_apply, Matrix.mul_apply]
  have h := NR_spec hD i ⟨32 * β.val + j.val, by omega⟩
  have h1 : ∀ s : Fin 32, bcol ⟨32 * β.val + j.val, by omega⟩ s = ⟨32 * β.val + s.val, by omega⟩ := by
    intro s; apply Fin.ext; show 32 * ((32 * β.val + j.val) / 32) + s.val = 32 * β.val + s.val; omega
  simp only [h1] at h
  refine Eq.trans h ?_
  unfold idR
  rw [Matrix.one_apply]
  refine if_congr ?_ rfl rfl
  show i.val = (32 * β.val + j.val) % 32 ↔ i = j
  rw [Fin.ext_iff]; omega

/-- From the inverses of the diagonal blocks to the inverse of the whole. -/
theorem block_inverse (M Ni : Matrix (Fin 64) (Fin 64) ℝ) (D1 F D2 N1 N2 : Matrix (Fin 32) (Fin 32) ℝ)
    (h1 : (1 + D1) * N1 = 1) (h2 : (1 + D2) * N2 = 1)
    (hM11 : ∀ i j, M ⟨i.val, by omega⟩ ⟨j.val, by omega⟩ = D1 i j)
    (hM12 : ∀ i j, M ⟨i.val, by omega⟩ ⟨32 + j.val, by omega⟩ = F i j)
    (hM21 : ∀ i j : Fin 32, M ⟨32 + i.val, by omega⟩ ⟨j.val, by omega⟩ = 0)
    (hM22 : ∀ i j, M ⟨32 + i.val, by omega⟩ ⟨32 + j.val, by omega⟩ = D2 i j)
    (hN11 : ∀ i j, Ni ⟨i.val, by omega⟩ ⟨j.val, by omega⟩ = N1 i j)
    (hN12 : ∀ i j, Ni ⟨i.val, by omega⟩ ⟨32 + j.val, by omega⟩ = -(N1 * (F * N2)) i j)
    (hN21 : ∀ i j : Fin 32, Ni ⟨32 + i.val, by omega⟩ ⟨j.val, by omega⟩ = 0)
    (hN22 : ∀ i j, Ni ⟨32 + i.val, by omega⟩ ⟨32 + j.val, by omega⟩ = N2 i j) :
    Ni * (1 + M) = 1 := by
  rw [mul_eq_one_comm]
  let e : Fin 32 ⊕ Fin 32 ≃ Fin 64 := finSumFinEquiv
  have hl : ∀ i : Fin 32, e (Sum.inl i) = ⟨i.val, by omega⟩ := fun i => rfl
  have hr : ∀ i : Fin 32, e (Sum.inr i) = ⟨32 + i.val, by omega⟩ := fun i => rfl
  have eM : M.submatrix e e = Matrix.fromBlocks D1 F 0 D2 := by
    ext (i | i) (j | j)
    · simp only [Matrix.submatrix_apply, hl, hM11, Matrix.fromBlocks_apply₁₁]
    · simp only [Matrix.submatrix_apply, hl, hr, hM12, Matrix.fromBlocks_apply₁₂]
    · simp only [Matrix.submatrix_apply, hl, hr, hM21, Matrix.fromBlocks_apply₂₁, Matrix.zero_apply]
    · simp only [Matrix.submatrix_apply, hr, hM22, Matrix.fromBlocks_apply₂₂]
  have eN : Ni.submatrix e e = Matrix.fromBlocks N1 (-(N1 * (F * N2))) 0 N2 := by
    ext (i | i) (j | j)
    · simp only [Matrix.submatrix_apply, hl, hN11, Matrix.fromBlocks_apply₁₁]
    · simp only [Matrix.submatrix_apply, hl, hr, hN12, Matrix.fromBlocks_apply₁₂, Matrix.neg_apply]
    · simp only [Matrix.submatrix_apply, hl, hr, hN21, Matrix.fromBlocks_apply₂₁, Matrix.zero_apply]
    · simp only [Matrix.submatrix_apply, hr, hN22, Matrix.fromBlocks_apply₂₂]
  have key : ((1 + M) * Ni).submatrix e e = 1 := by
    have e1 : (1 + M).submatrix e e = 1 + M.submatrix e e := by
      ext i j; simp [Matrix.one_apply, e.injective.eq_iff]
    rw [← Matrix.submatrix_mul_equiv (1 + M) Ni e e e, e1, eM, eN,
      ← Matrix.fromBlocks_one, Matrix.fromBlocks_add, Matrix.fromBlocks_multiply]
    congr 1
    · rw [h1, mul_zero, add_zero]
    · rw [Matrix.mul_neg, ← Matrix.mul_assoc (1 + D1), h1, Matrix.one_mul, zero_add]; simp
    · simp
    · rw [mul_neg, zero_add, zero_mul, neg_zero, zero_add, h2]
  have := congrArg (fun X => Matrix.submatrix X e.symm e.symm) key
  simpa using this

end Wkv

end
-- ==== Proof.SemOps.lean ====
/- The named steps of one head on arrays of reals: each is the real operation it stands for. -/
module

public import proofs.«01_k».proof.Proof.Head
public import proofs.«01_k».proof.Proof.Inverse
public import Idealize.ShloMosaic.Lib.Pointwise

@[expose] public section

set_option maxRecDepth 16384

noncomputable section

namespace Cert.KernelIdeal.Head

open Idealize.ShloMosaic Idealize.SL.Sem Cert.KernelIdeal Cert.KernelIdeal.Gen Wkv

/-- A matrix of reals as an array. -/
def cv {m n : Nat} {φ : FTy} (X : Fin m → Fin n → ℝ) : FVec Ideal ⟨2, ![m, n]⟩ φ := fun i => ((X (i 0) (i 1) : ℝ) : EReal)

/-- An entry of an array of reals. -/
theorem cv_ix2 {m n : Nat} {φ : FTy} (X : Fin m → Fin n → ℝ) (a : Fin m) (b : Fin n) : cv (φ := φ) X (ix2 a b) = ((X a b : ℝ) : EReal) := rfl

/-- A sum of reals, as a real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A sum of products of reals. -/
theorem sum_mul_coe {k : Nat} (f g : Fin k → ℝ) : (∑ i, ((f i : ℝ) : EReal) * ((g i : ℝ) : EReal)) = ((∑ i, f i * g i : ℝ) : EReal) := by
  rw [coe_sum]; exact Finset.sum_congr rfl fun i _ => (EReal.coe_mul _ _).symm

section
variable {m n : Nat} (X : Fin m → Fin n → ℝ)

/-- The first part of a split is the number. -/
theorem p0_cv : p0 (cv (φ := .f32) X) = cv (φ := .bf16) X := rfl
/-- What a split leaves is zero. -/
theorem rest_cv : rest (cv (φ := .f32) X) = cv (φ := .f32) fun _ _ => 0 := by
  funext i
  show ((X (i 0) (i 1) : ℝ) : EReal) - ((X (i 0) (i 1) : ℝ) : EReal) = ((0 : ℝ) : EReal)
  rw [← EReal.coe_sub, sub_self]
/-- The second part of a split is zero. -/
theorem p1_cv : p1 (cv (φ := .f32) X) = cv (φ := .bf16) fun _ _ => 0 := by rw [p1, rest_cv, p0_cv]
/-- The third part of a split is zero. -/
theorem p2_cv : p2 (cv (φ := .f32) X) = cv (φ := .bf16) fun _ _ => 0 := by rw [p2, rest_cv, rest_cv, p0_cv]
end

/-! ### Masks -/

/-- Where the block triangle is one. -/
theorem triMask_apply (s t : Fin 128) : triMask (ix2 s t) = if s.val ≤ t.val ∧ s.val / 64 = t.val / 64 then 1#1 else 0#1 := by
  pointwise [triMask, fdiv]
  revert s t
  decide +kernel

/-- Which products the kernel keeps. -/
theorem keepMask_apply (s : Fin 64) (t : Fin 128) :
    keepMask (ix2 s t) = if (if t.val < 64 then s.val < t.val else s.val ≤ t.val - 64) then 1#1 else 0#1 := by
  pointwise [keepMask]
  revert s t
  decide +kernel

/-- Which columns lie in an even block. -/
theorem evenMask_apply (s : Fin 32) (t : Fin 128) : evenMask (ix2 s t) = if t.val / 32 % 2 = 0 then 1#1 else 0#1 := by
  pointwise [evenMask, blk, fdiv, pmod]
  clear s
  revert t
  decide +kernel

/-- Where the identity blocks are one. -/
theorem idMask_apply (s : Fin 32) (t : Fin 128) : idMask (ix2 s t) = if s.val = t.val % 32 then 1#1 else 0#1 := by
  pointwise [idMask, pmod]
  revert s t
  decide +kernel

/-- Which columns lie in block 1. -/
theorem blkMask1_apply (s : Fin 32) (t : Fin 128) : blkMask 1#32 (ix2 s t) = if t.val / 32 = 1 then 1#1 else 0#1 := by
  pointwise [blkMask, blk, fdiv]
  clear s
  revert t
  decide +kernel

/-- Which columns lie in block 3. -/
theorem blkMask3_apply (s : Fin 32) (t : Fin 128) : blkMask 3#32 (ix2 s t) = if t.val / 32 = 3 then 1#1 else 0#1 := by
  pointwise [blkMask, blk, fdiv]
  clear s
  revert t
  decide +kernel

/-- The column a gather reads. -/
theorem gidx_apply (n : Fin 32) (s : Fin 8) (t : Fin 128) : (gidx (BitVec.ofNat 32 n.val) (ix2 s t)).toNat = 32 * (t.val / 32) + n.val := by
  pointwise [gidx, base, fdiv]
  clear s
  revert n t
  decide +kernel

/-- A selection as a choice. -/
theorem sel_ite (p : Prop) [Decidable p] {α : Type} (x y : α) : Scalar.select (if p then 1#1 else 0#1) x y = if p then x else y := by
  by_cases h : p
  · rw [if_pos h, if_pos h]; rfl
  · rw [if_neg h, if_neg h]; rfl

/-- A choice between two reals. -/
theorem ite_coe (p : Prop) [Decidable p] (x y : ℝ) : (if p then (x : EReal) else (y : EReal)) = ((if p then x else y : ℝ) : EReal) := by
  split <;> rfl

/-- A dependent choice between two reals. -/
theorem dite_coe (p : Prop) [Decidable p] (x : p → ℝ) (y : ¬p → ℝ) :
    (if h : p then (x h : EReal) else (y h : EReal)) = ((if h : p then x h else y h : ℝ) : EReal) := by
  split <;> rfl

/-! ### Slices and concatenations -/

/-- The first 64 columns. -/
def colL {m : Nat} (X : Fin m → Fin 128 → ℝ) : Fin m → Fin 64 → ℝ := fun i j => X i ⟨j.val, by omega⟩
/-- The last 64 columns. -/
def colR {m : Nat} (X : Fin m → Fin 128 → ℝ) : Fin m → Fin 64 → ℝ := fun i j => X i ⟨64 + j.val, by omega⟩
/-- Two matrices side by side. -/
def sideR {m : Nat} (X Y : Fin m → Fin 64 → ℝ) : Fin m → Fin 128 → ℝ := fun i j => if h : j.val < 64 then X i ⟨j.val, h⟩ else Y i ⟨j.val - 64, by omega⟩
/-- Two matrices one above the other. -/
def stackR {n : Nat} (X Y : Fin 64 → Fin n → ℝ) : Fin 128 → Fin n → ℝ := fun i j => if h : i.val < 64 then X ⟨i.val, h⟩ j else Y ⟨i.val - 64, by omega⟩ j
/-- The transpose. -/
def trR {m n : Nat} (X : Fin m → Fin n → ℝ) : Fin n → Fin m → ℝ := fun i j => X j i
/-- The product. -/
def mulR {m k n : Nat} (X : Fin m → Fin k → ℝ) (Y : Fin k → Fin n → ℝ) : Fin m → Fin n → ℝ := fun i j => ∑ l, X i l * Y l j
/-- The zero matrix. -/
def zR {m n : Nat} : Fin m → Fin n → ℝ := fun _ _ => 0

/-- The left half of an array of reals. -/
theorem lf_cv {φ : FTy} (X : Fin 64 → Fin 128 → ℝ) : lf (cv (φ := φ) X) = cv (φ := φ) (colL X) := by
  funext i; idx_vars i; pointwise [lf, cv_ix2, colL]
/-- The right half of an array of reals. -/
theorem rt_cv {φ : FTy} (X : Fin 64 → Fin 128 → ℝ) : rt (cv (φ := φ) X) = cv (φ := φ) (colR X) := by
  funext i; idx_vars i; pointwise [rt, cv_ix2, colR]
/-- The left half turned. -/
theorem tr0_cv (X : Fin 64 → Fin 128 → ℝ) : tr0 (cv (φ := .bf16) X) = cv (φ := .bf16) (trR (colL X)) := by
  funext i; idx_vars i; pointwise [tr0, cv_ix2, colL, trR]
/-- The right half turned. -/
theorem tr1_cv (X : Fin 64 → Fin 128 → ℝ) : tr1 (cv (φ := .bf16) X) = cv (φ := .bf16) (trR (colR X)) := by
  funext i; idx_vars i; pointwise [tr1, cv_ix2, colR, trR]
/-- Two arrays side by side. -/
theorem side_cv {φ : FTy} (X Y : Fin 64 → Fin 64 → ℝ) : side (cv (φ := φ) X) (cv (φ := φ) Y) = cv (φ := φ) (sideR X Y) := by
  funext i; idx_vars i; pointwise [side, cv_ix2, sideR]; rw [dite_coe]
/-- Two arrays on top of each other. -/
theorem stack_cv {φ : FTy} (X Y : Fin 64 → Fin 64 → ℝ) : stack (cv (φ := φ) X) (cv (φ := φ) Y) = cv (φ := φ) (stackR X Y) := by
  funext i; idx_vars i; pointwise [stack, cv_ix2, stackR]; rw [dite_coe]

/-! ### Products -/

/-- The split product of a tall and a wide array is the real product. -/
theorem dotG_cv (X : Fin 128 → Fin 64 → ℝ) (Y : Fin 64 → Fin 128 → ℝ) :
    dotG (cv X) (cv fun _ _ => 0) (cv fun _ _ => 0) (cv Y) (cv fun _ _ => 0) (cv fun _ _ => 0) = cv (φ := .f32) (mulR X Y) := by
  funext i; idx_vars i; pointwise [dotG, cv_ix2, mulR]
  simp only [sum_mul_coe, zero_mul, mul_zero, Finset.sum_const_zero, EReal.coe_zero, add_zero, zero_add]
/-- The split product of a square and a wide array is the real product. -/
theorem dotS_cv (X : Fin 64 → Fin 64 → ℝ) (Y : Fin 64 → Fin 128 → ℝ) :
    dotS (cv X) (cv fun _ _ => 0) (cv fun _ _ => 0) (cv Y) (cv fun _ _ => 0) (cv fun _ _ => 0) = cv (φ := .f32) (mulR X Y) := by
  funext i; idx_vars i; pointwise [dotS, cv_ix2, mulR]
  simp only [sum_mul_coe, zero_mul, mul_zero, Finset.sum_const_zero, EReal.coe_zero, add_zero, zero_add]
/-- The split product of two square arrays is the real product. -/
theorem dotU_cv (X : Fin 64 → Fin 64 → ℝ) (Y : Fin 64 → Fin 64 → ℝ) :
    dotU (cv X) (cv fun _ _ => 0) (cv fun _ _ => 0) (cv Y) (cv fun _ _ => 0) (cv fun _ _ => 0) = cv (φ := .f32) (mulR X Y) := by
  funext i; idx_vars i; pointwise [dotU, cv_ix2, mulR]
  simp only [sum_mul_coe, zero_mul, mul_zero, Finset.sum_const_zero, EReal.coe_zero, add_zero, zero_add]
/-- The split product in the inverse is the real product. -/
theorem dotQ_cv (X : Fin 32 → Fin 128 → ℝ) (Y : Fin 128 → Fin 128 → ℝ) :
    dotQ (cv X) (cv fun _ _ => 0) (cv fun _ _ => 0) (cv Y) (cv fun _ _ => 0) (cv fun _ _ => 0) = cv (φ := .f32) (mulR X Y) := by
  funext i; idx_vars i; pointwise [dotQ, cv_ix2, mulR]
  simp only [sum_mul_coe, zero_mul, mul_zero, Finset.sum_const_zero, EReal.coe_zero, add_zero, zero_add]

end Cert.KernelIdeal.Head

end
-- ==== Proof.Recur.lean ====
/- The recurrence over the reals, token by token, and its form over a chunk of 64 tokens: the running decay is divided out,
   so that the state is a sum of outer products of scaled operands, and the removed directions solve a triangular system. -/
module

public import Mathlib.Analysis.SpecialFunctions.Pow.Real
public import Mathlib.LinearAlgebra.Matrix.NonsingularInverse

@[expose] public section

noncomputable section

namespace Wkv

open Finset

/-- One token: decay the state, remove and replace along `kk`, add the value's outer product with the key. -/
def tok (wl kk ic kr v : Fin 64 → ℕ → ℝ) (S : Fin 64 → Fin 64 → ℝ) (t : ℕ) : Fin 64 → Fin 64 → ℝ := fun i e =>
  S i e * Real.exp (-Real.exp (wl e t)) + (∑ f, S i f * (-kk f t)) * (kk e t * ic e t) + v i t * kr e t

/-- The state after `n` tokens from token `t0`. -/
def run (wl kk ic kr v : Fin 64 → ℕ → ℝ) (S : Fin 64 → Fin 64 → ℝ) (t0 : ℕ) : ℕ → Fin 64 → Fin 64 → ℝ
  | 0 => S
  | n + 1 => tok wl kk ic kr v (run wl kk ic kr v S t0 n) (t0 + n)

/-- The result of the `n`-th token after `t0`. -/
def res (wl kk ic kr v rr : Fin 64 → ℕ → ℝ) (S : Fin 64 → Fin 64 → ℝ) (t0 n : ℕ) (i : Fin 64) : ℝ :=
  ∑ e, run wl kk ic kr v S t0 (n + 1) i e * rr e (t0 + n)

/-- A run is the run of its second part from the state after its first. -/
theorem run_add (wl kk ic kr v : Fin 64 → ℕ → ℝ) (S : Fin 64 → Fin 64 → ℝ) (t0 m n : ℕ) :
    run wl kk ic kr v S t0 (m + n) = run wl kk ic kr v (run wl kk ic kr v S t0 m) (t0 + m) n := by
  induction n with
  | zero => rfl
  | succ n ih => rw [← Nat.add_assoc, run, run, ih, Nat.add_assoc]

/-- Results further on start from the state reached. -/
theorem res_add (wl kk ic kr v rr : Fin 64 → ℕ → ℝ) (S : Fin 64 → Fin 64 → ℝ) (t0 m n : ℕ) :
    res wl kk ic kr v rr S t0 (m + n) = res wl kk ic kr v rr (run wl kk ic kr v S t0 m) (t0 + m) n := by
  funext i
  unfold res
  rw [Nat.add_assoc m n 1, run_add, Nat.add_assoc t0 m n]

/-- The decay over `n` tokens from token `t0`. -/
def dec (wl : Fin 64 → ℕ → ℝ) (t0 n : ℕ) (e : Fin 64) : ℝ := Real.exp (∑ s ∈ range n, -Real.exp (wl e (t0 + s)))

/-- The decay over one more token. -/
theorem dec_succ (wl : Fin 64 → ℕ → ℝ) (t0 n : ℕ) (e : Fin 64) :
    dec wl t0 (n + 1) e = dec wl t0 n e * Real.exp (-Real.exp (wl e (t0 + n))) := by
  unfold dec; rw [sum_range_succ, Real.exp_add]

/-- No decay is zero. -/
theorem dec_ne (wl : Fin 64 → ℕ → ℝ) (t0 n : ℕ) (e : Fin 64) : dec wl t0 n e ≠ 0 := (Real.exp_pos _).ne'

/-- The state with the decay divided out, from the removed directions `U`. -/
def acc (wl kk ic kr v : Fin 64 → ℕ → ℝ) (S : Fin 64 → Fin 64 → ℝ) (t0 : ℕ) (U : Fin 64 → ℕ → ℝ) (n : ℕ) (i e : Fin 64) : ℝ :=
  S i e + ∑ s ∈ range n, (v i (t0 + s) * (kr e (t0 + s) * (dec wl t0 (s + 1) e)⁻¹)
    - U i s * (kk e (t0 + s) * ic e (t0 + s) * (dec wl t0 (s + 1) e)⁻¹))

/-- If `U` holds the directions removed at each token, the state is the accumulated one by the decay. -/
theorem run_eq_acc (wl kk ic kr v : Fin 64 → ℕ → ℝ) (S : Fin 64 → Fin 64 → ℝ) (t0 : ℕ) (U : Fin 64 → ℕ → ℝ) (L : ℕ)
    (hU : ∀ n < L, ∀ i, U i n = ∑ e, acc wl kk ic kr v S t0 U n i e * (kk e (t0 + n) * dec wl t0 n e)) :
    ∀ n ≤ L, ∀ i e, run wl kk ic kr v S t0 n i e = acc wl kk ic kr v S t0 U n i e * dec wl t0 n e := by
  intro n
  induction n with
  | zero => intro _ i e; simp [run, acc, dec]
  | succ n ih =>
    intro hn i e
    have hr : ∑ f, run wl kk ic kr v S t0 n i f * (-kk f (t0 + n)) = -U i n := by
      rw [hU n (by omega) i, ← sum_neg_distrib]
      refine sum_congr rfl fun f _ => ?_
      rw [ih (by omega) i f]; ring
    show tok wl kk ic kr v (run wl kk ic kr v S t0 n) (t0 + n) i e = _
    unfold tok
    rw [hr, ih (by omega) i e]
    have hd := dec_ne wl t0 (n + 1) e
    have h1 : acc wl kk ic kr v S t0 U (n + 1) i e = acc wl kk ic kr v S t0 U n i e
        + (v i (t0 + n) * (kr e (t0 + n) * (dec wl t0 (n + 1) e)⁻¹)
          - U i n * (kk e (t0 + n) * ic e (t0 + n) * (dec wl t0 (n + 1) e)⁻¹)) := by
      unfold acc; rw [sum_range_succ]; ring
    rw [h1, add_mul, sub_mul]
    have e1 : v i (t0 + n) * (kr e (t0 + n) * (dec wl t0 (n + 1) e)⁻¹) * dec wl t0 (n + 1) e = v i (t0 + n) * kr e (t0 + n) := by
      field_simp
    have e2 : U i n * (kk e (t0 + n) * ic e (t0 + n) * (dec wl t0 (n + 1) e)⁻¹) * dec wl t0 (n + 1) e
        = U i n * (kk e (t0 + n) * ic e (t0 + n)) := by field_simp
    rw [e1, e2, dec_succ]
    ring

/-- A sum over the first `n` of 64 as a masked sum over all. -/
theorem sum_range_eq_masked (n : ℕ) (hn : n ≤ 64) (F : ℕ → ℝ) :
    ∑ s ∈ range n, F s = ∑ s : Fin 64, if s.val < n then F s.val else 0 := by
  rw [Fin.sum_univ_eq_sum_range (fun s => if s < n then F s else 0) 64, ← sum_filter]
  refine sum_congr ?_ fun _ _ => rfl
  ext s; simp only [mem_filter, mem_range]; omega

/-! ### One chunk in matrix form -/

section
variable (a b r k V : Fin 64 → Fin 64 → ℝ)

/-- An array of reals as a matrix. -/
def mat (X : Fin 64 → Fin 64 → ℝ) : Matrix (Fin 64) (Fin 64) ℝ := X

/-- A matrix by its entries. -/
theorem mat_apply (X : Fin 64 → Fin 64 → ℝ) (i j : Fin 64) : mat X i j = X i j := rfl

/-- Products of earlier columns of `b` with columns of `a`. -/
def ltMat (b a : Fin 64 → Fin 64 → ℝ) : Fin 64 → Fin 64 → ℝ := fun s t =>
  if s.val < t.val then ∑ d, b d s * a d t else 0
/-- Products of columns of `b` with columns of `r`, none later. -/
def leMat (b r : Fin 64 → Fin 64 → ℝ) : Fin 64 → Fin 64 → ℝ := fun s t =>
  if s.val ≤ t.val then ∑ d, b d s * r d t else 0

/-- The chunk's data: the scaled operands of tokens `t0 … t0 + 63`. -/
structure IsChunk (wl kk ic kr v rr : Fin 64 → ℕ → ℝ) (t0 : ℕ) : Prop where
  ha : ∀ e t, a e t = kk e (t0 + t.val) * dec wl t0 t.val e
  hb : ∀ e t, b e t = kk e (t0 + t.val) * ic e (t0 + t.val) * (dec wl t0 (t.val + 1) e)⁻¹
  hr : ∀ e t, r e t = rr e (t0 + t.val) * dec wl t0 (t.val + 1) e
  hk : ∀ e t, k e t = kr e (t0 + t.val) * (dec wl t0 (t.val + 1) e)⁻¹
  hV : ∀ i t, V i t = v i (t0 + t.val)

variable {a b r k V} {wl kk ic kr v rr : Fin 64 → ℕ → ℝ} {t0 : ℕ}

/-- The state within a chunk, with the decay divided out, is a sum of contributions. -/
theorem IsChunk.acc_eq (h : IsChunk a b r k V wl kk ic kr v rr t0) (S U : Fin 64 → Fin 64 → ℝ) (n : ℕ) (hn : n ≤ 64)
    (i e : Fin 64) :
    acc wl kk ic kr v S t0 (fun i s => if h : s < 64 then U i ⟨s, h⟩ else 0) n i e
      = S i e + ∑ s : Fin 64, if s.val < n then V i s * k e s - U i s * b e s else 0 := by
  unfold acc
  rw [sum_range_eq_masked n hn]
  congr 1
  refine sum_congr rfl fun s _ => ?_
  rw [h.hV, h.hk, h.hb]
  simp only [Fin.is_lt, dite_true, Fin.eta]

/-- A masked accumulation against a column is the three products of the chunk form. -/
theorem acc_dot (S U c : Fin 64 → Fin 64 → ℝ) (p : Fin 64 → Prop) [DecidablePred p] (i t : Fin 64) :
    ∑ e, (S i e + ∑ s : Fin 64, if p s then V i s * k e s - U i s * b e s else 0) * c e t
      = ∑ e, S i e * c e t + ∑ s, V i s * (if p s then ∑ d, k d s * c d t else 0)
        - ∑ s, U i s * (if p s then ∑ d, b d s * c d t else 0) := by
  have h1 : ∀ e, (S i e + ∑ s : Fin 64, if p s then V i s * k e s - U i s * b e s else 0) * c e t
      = S i e * c e t + ∑ s, (V i s * (if p s then k e s * c e t else 0) - U i s * (if p s then b e s * c e t else 0)) := by
    intro e
    rw [add_mul, sum_mul]
    congr 1
    refine sum_congr rfl fun s _ => ?_
    by_cases hp : p s
    · simp only [if_pos hp]; ring
    · simp only [if_neg hp]; ring
  rw [sum_congr rfl fun e _ => h1 e, sum_add_distrib, sum_comm]
  simp only [sum_sub_distrib]
  have h2 : ∀ (x : ℝ) (s : Fin 64) (g : Fin 64 → ℝ), ∑ e, x * (if p s then g e else 0) = x * (if p s then ∑ e, g e else 0) := by
    intro x s g
    by_cases hp : p s
    · simp only [if_pos hp, mul_sum]
    · simp only [if_neg hp, mul_zero, sum_const_zero]
  simp only [h2]
  ring

/-- The chunk form: if `U (1 + M) = X`, then the state and the results of the chunk are those of the recurrence. -/
theorem IsChunk.run_res (h : IsChunk a b r k V wl kk ic kr v rr t0) (S U : Fin 64 → Fin 64 → ℝ)
    (hU : mat U * (1 + mat (ltMat b a)) = mat S * mat a + mat V * mat (ltMat k a)) :
    (∀ i e, run wl kk ic kr v S t0 64 i e = (S i e + ∑ s, V i s * k e s - ∑ s, U i s * b e s) * dec wl t0 64 e) ∧
    (∀ i (t : Fin 64), res wl kk ic kr v rr S t0 t.val i = (mat S * mat r + mat V * mat (leMat k r) - mat U * mat (leMat b r)) i t) := by
  have hU' : ∀ n < 64, ∀ i, (fun i s => if h : s < 64 then U i ⟨s, h⟩ else 0 : Fin 64 → ℕ → ℝ) i n
      = ∑ e, acc wl kk ic kr v S t0 (fun i s => if h : s < 64 then U i ⟨s, h⟩ else 0) n i e * (kk e (t0 + n) * dec wl t0 n e) := by
    intro n hn i
    have e1 : ∀ e, acc wl kk ic kr v S t0 (fun i s => if h : s < 64 then U i ⟨s, h⟩ else 0) n i e * (kk e (t0 + n) * dec wl t0 n e)
        = (S i e + ∑ s : Fin 64, if s.val < n then V i s * k e s - U i s * b e s else 0) * a e ⟨n, hn⟩ := by
      intro e; rw [h.acc_eq S U n hn.le, h.ha]
    rw [sum_congr rfl fun e _ => e1 e, acc_dot S U a (fun s => s.val < n) i ⟨n, hn⟩]
    have e2 := congrFun (congrFun hU i) ⟨n, hn⟩
    rw [mul_add, mul_one, Matrix.add_apply, Matrix.add_apply, Matrix.mul_apply, Matrix.mul_apply, Matrix.mul_apply] at e2
    simp only [dif_pos hn]
    exact eq_sub_of_add_eq e2
  have hrun := run_eq_acc wl kk ic kr v S t0 _ 64 hU'
  constructor
  · intro i e
    rw [hrun 64 le_rfl i e, h.acc_eq S U 64 le_rfl]
    rw [add_sub_assoc, ← sum_sub_distrib]
    exact congrArg (fun x => (S i e + x) * dec wl t0 64 e) (sum_congr rfl fun s _ => if_pos s.isLt)
  · intro i t
    have e1 : ∀ e, run wl kk ic kr v S t0 (t.val + 1) i e * rr e (t0 + t.val)
        = (S i e + ∑ s : Fin 64, if s.val ≤ t.val then V i s * k e s - U i s * b e s else 0) * r e t := by
      intro e
      rw [hrun (t.val + 1) t.isLt i e, h.acc_eq S U _ t.isLt, h.hr]
      simp only [Nat.lt_succ_iff]
      ring
    unfold res
    rw [sum_congr rfl fun e _ => e1 e, acc_dot S U r (fun s => s.val ≤ t.val) i t]
    rw [Matrix.sub_apply, Matrix.add_apply, Matrix.mul_apply, Matrix.mul_apply, Matrix.mul_apply]
    rfl

end

end Wkv

end
-- ==== Proof.SemChunk.lean ====
/- One chunk of one head on arrays of reals: products kept, contributions, removed directions, results and the next state. -/
module

public import proofs.«01_k».proof.Proof.SemOps
public import proofs.«01_k».proof.Proof.Recur

@[expose] public section

set_option maxRecDepth 16384

noncomputable section

namespace Cert.KernelIdeal.Head

open Idealize.ShloMosaic Idealize.SL.Sem Cert.KernelIdeal Cert.KernelIdeal.Gen Wkv

/-! ### One-pass products -/

/-- A contraction over three pieces is the sum of three contractions. -/
theorem sum3 {n N : Nat} (hN : n + n + n = N) (a1 a2 a3 b1 b2 b3 : Fin n → EReal) :
    (∑ x : Fin N, (if h : x.val < n then a1 ⟨x.val, h⟩ else if h' : x.val - n < n then a2 ⟨x.val - n, h'⟩ else a3 ⟨x.val - n - n, by omega⟩)
      * (if h : x.val < n then b1 ⟨x.val, h⟩ else if h' : x.val - n < n then b2 ⟨x.val - n, h'⟩ else b3 ⟨x.val - n - n, by omega⟩))
      = (∑ x, a1 x * b1 x) + (∑ x, a2 x * b2 x) + ∑ x, a3 x * b3 x := by
  subst hN
  rw [Fin.sum_univ_add, Fin.sum_univ_add]
  congr 1
  · congr 1
    · refine Finset.sum_congr rfl fun x _ => ?_
      simp only [Fin.val_castAdd, Fin.is_lt, dite_true]
    · refine Finset.sum_congr rfl fun x _ => ?_
      have h0 : ¬(n + x.val < n) := by omega
      have h1 : n + x.val - n < n := by omega
      simp only [Fin.val_castAdd, Fin.val_natAdd, h0, h1, dite_false, dite_true]
      congr 2 <;> · apply Fin.ext; show n + x.val - n = x.val; omega
  · refine Finset.sum_congr rfl fun x _ => ?_
    have h0 : ¬(n + n + x.val < n) := by omega
    have h1 : ¬(n + n + x.val - n < n) := by omega
    simp only [Fin.val_natAdd, h0, h1, dite_false]
    congr 2 <;> · apply Fin.ext; show n + n + x.val - n - n = x.val; omega

/-- The three-part product of the values with the kept products, on reals. -/
theorem dot3X_cv (X : Fin 64 → Fin 64 → ℝ) (Y : Fin 64 → Fin 128 → ℝ) :
    dot3X (cv X) (cv X) (cv X) (cv Y) (cv fun _ _ => 0) (cv fun _ _ => 0) = cv (φ := .f32) (mulR X Y) := by
  funext i; idx_vars i; pointwise [dot3X]
  refine (sum3 (n := 64) rfl (fun l => cv (φ := .bf16) X (ix2 i0 l)) (fun l => cv (φ := .bf16) X (ix2 i0 l)) (fun l => cv (φ := .bf16) X (ix2 i0 l))
    (fun l => cv (φ := .bf16) Y (ix2 l i1)) (fun l => cv (φ := .bf16) (fun _ _ => 0) (ix2 l i1)) (fun l => cv (φ := .bf16) (fun _ _ => 0) (ix2 l i1))).trans ?_
  simp only [cv_ix2, sum_mul_coe, zero_mul, mul_zero, Finset.sum_const_zero, EReal.coe_zero, add_zero, zero_add]
  rfl

/-- The three-part product of the values with the keys, on reals. -/
theorem dot3K_cv (X : Fin 64 → Fin 64 → ℝ) (Y : Fin 64 → Fin 64 → ℝ) :
    dot3K (cv X) (cv X) (cv X) (cv Y) (cv fun _ _ => 0) (cv fun _ _ => 0) = cv (φ := .f32) (mulR X Y) := by
  funext i; idx_vars i; pointwise [dot3K]
  refine (sum3 (n := 64) rfl (fun l => cv (φ := .bf16) X (ix2 i0 l)) (fun l => cv (φ := .bf16) X (ix2 i0 l)) (fun l => cv (φ := .bf16) X (ix2 i0 l))
    (fun l => cv (φ := .bf16) Y (ix2 l i1)) (fun l => cv (φ := .bf16) (fun _ _ => 0) (ix2 l i1)) (fun l => cv (φ := .bf16) (fun _ _ => 0) (ix2 l i1))).trans ?_
  simp only [cv_ix2, sum_mul_coe, zero_mul, mul_zero, Finset.sum_const_zero, EReal.coe_zero, add_zero, zero_add]
  rfl

/-- The three-part product that forms the running sums, on reals. -/
theorem dot3C_cv (X : Fin 64 → Fin 128 → ℝ) (Y : Fin 128 → Fin 128 → ℝ) :
    dot3C (cv X) (cv fun _ _ => 0) (cv fun _ _ => 0) (cv Y) (cv Y) (cv Y) = cv (φ := .f32) (mulR X Y) := by
  funext i; idx_vars i; pointwise [dot3C]
  refine (sum3 (n := 128) rfl (fun l => cv (φ := .bf16) X (ix2 i0 l)) (fun l => cv (φ := .bf16) (fun _ _ => 0) (ix2 i0 l)) (fun l => cv (φ := .bf16) (fun _ _ => 0) (ix2 i0 l))
    (fun l => cv (φ := .bf16) Y (ix2 l i1)) (fun l => cv (φ := .bf16) Y (ix2 l i1)) (fun l => cv (φ := .bf16) Y (ix2 l i1))).trans ?_
  simp only [cv_ix2, sum_mul_coe, zero_mul, mul_zero, Finset.sum_const_zero, EReal.coe_zero, add_zero, zero_add]
  rfl

/-! ### The kept products -/

/-- The left half of two arrays side by side. -/
theorem colL_side {m : Nat} (X Y : Fin m → Fin 64 → ℝ) : colL (sideR X Y) = X := by
  funext i j; unfold colL sideR; rw [dif_pos j.isLt]
/-- The right half of two arrays side by side. -/
theorem colR_side {m : Nat} (X Y : Fin m → Fin 64 → ℝ) : colR (sideR X Y) = Y := by
  funext i j; unfold colR sideR; rw [dif_neg (by simp only; omega)]
  congr 1; apply Fin.ext; show 64 + j.val - 64 = j.val; omega
/-- The left half of zeros. -/
theorem colL_zero {m : Nat} : colL (fun (_ : Fin m) _ => (0 : ℝ)) = fun _ _ => 0 := rfl
/-- The right half of zeros. -/
theorem colR_zero {m : Nat} : colR (fun (_ : Fin m) _ => (0 : ℝ)) = fun _ _ => 0 := rfl
/-- Zeros turned. -/
theorem trR_zero {m n : Nat} : trR (fun (_ : Fin m) (_ : Fin n) => (0 : ℝ)) = fun _ _ => 0 := rfl
/-- Zeros side by side. -/
theorem sideR_zero {m : Nat} : sideR (fun (_ : Fin m) _ => (0 : ℝ)) (fun _ _ => 0) = fun _ _ => 0 := by
  funext i j; unfold sideR; split <;> rfl
/-- Zeros on top of each other. -/
theorem stackR_zero {n : Nat} : stackR (fun _ (_ : Fin n) => (0 : ℝ)) (fun _ _ => 0) = fun _ _ => 0 := by
  funext i j; unfold stackR; split <;> rfl

section
variable (A B R K : Fin 64 → Fin 128 → ℝ)

/-- All products of the first chunk, on reals. -/
theorem G0_cv : G0 (cv (φ := .f32) A) (cv (φ := .f32) B) (cv (φ := .f32) R) (cv (φ := .f32) K)
    = cv (φ := .f32) (mulR (stackR (trR (colL B)) (trR (colL K))) (sideR (colL A) (colL R))) := by
  unfold G0
  simp only [p0_cv, p1_cv, p2_cv, tr0_cv, lf_cv, side_cv, stack_cv, colL_zero, trR_zero, sideR_zero, stackR_zero]
  exact dotG_cv _ _
/-- All products of the second chunk, on reals. -/
theorem G1_cv : G1 (cv (φ := .f32) A) (cv (φ := .f32) B) (cv (φ := .f32) R) (cv (φ := .f32) K)
    = cv (φ := .f32) (mulR (stackR (trR (colR B)) (trR (colR K))) (sideR (colR A) (colR R))) := by
  unfold G1
  simp only [p0_cv, p1_cv, p2_cv, tr1_cv, rt_cv, side_cv, stack_cv, colR_zero, trR_zero, sideR_zero, stackR_zero]
  exact dotG_cv _ _
end

/-- The kept products of the write-back directions. -/
theorem Gb_cv (b k a r : Fin 64 → Fin 64 → ℝ) :
    Gb (cv (φ := .f32) (mulR (stackR (trR b) (trR k)) (sideR a r))) = cv (φ := .f32) (sideR (ltMat b a) (leMat b r)) := by
  funext i; idx_vars i; pointwise [Gb, cv_ix2, keepMask_apply, sel_ite]
  rw [← EReal.coe_zero, ite_coe]
  congr 1
  unfold mulR sideR stackR trR ltMat leMat
  by_cases h : i1.val < 64
  · simp only [h, if_true, dite_true, Fin.is_lt]
  · simp only [h, if_false, dite_false, Fin.is_lt, dite_true]

/-- The kept products of the keys. -/
theorem Gk_cv (b k a r : Fin 64 → Fin 64 → ℝ) :
    Gk (cv (φ := .f32) (mulR (stackR (trR b) (trR k)) (sideR a r))) = cv (φ := .f32) (sideR (ltMat k a) (leMat k r)) := by
  funext i; idx_vars i; pointwise [Gk, cv_ix2, keepMask_apply, sel_ite]
  rw [← EReal.coe_zero, ite_coe]
  congr 1
  have h2 : ¬(64 + i0.val < 64) := by omega
  have h3 : ∀ h, (⟨64 + i0.val - 64, h⟩ : Fin 64) = i0 := by intro h; apply Fin.ext; show 64 + i0.val - 64 = i0.val; omega
  unfold mulR sideR stackR trR ltMat leMat
  by_cases h : i1.val < 64
  · simp only [h, h2, h3, if_true, dite_true, dite_false]
  · simp only [h, h2, h3, if_false, dite_false]

/-! ### The chunk's stages -/

/-- A sum of matrices. -/
def addR {m n : Nat} (X Y : Fin m → Fin n → ℝ) : Fin m → Fin n → ℝ := fun i j => X i j + Y i j
/-- A difference of matrices. -/
def subR {m n : Nat} (X Y : Fin m → Fin n → ℝ) : Fin m → Fin n → ℝ := fun i j => X i j - Y i j

/-- What the state and the values contribute. -/
theorem XYV_cv (S : Fin 64 → Fin 64 → ℝ) (a r V : Fin 64 → Fin 64 → ℝ) (k : Fin 64 → Fin 128 → ℝ) :
    XYV (cv (φ := .f32) S) (cv (φ := .bf16) (sideR a r)) (cv fun _ _ => 0) (cv fun _ _ => 0) (cv (φ := .bf16) V) (cv (φ := .f32) k)
      = cv (φ := .f32) (addR (mulR S (sideR a r)) (mulR V k)) := by
  unfold XYV
  rw [p0_cv, p1_cv, p2_cv, p0_cv, p1_cv, p2_cv, dotS_cv, dot3X_cv]
  funext i; exact (EReal.coe_add _ _).symm

/-- What is removed. -/
theorem UV_cv (X : Fin 64 → Fin 128 → ℝ) (Ni : Fin 64 → Fin 64 → ℝ) :
    UV (cv (φ := .f32) X) (cv (φ := .f32) Ni) = cv (φ := .f32) (mulR (colL X) Ni) := by
  unfold UV
  rw [lf_cv, p0_cv, p1_cv, p2_cv, p0_cv, p1_cv, p2_cv, dotU_cv]

/-- The results. -/
theorem YV_cv (X : Fin 64 → Fin 128 → ℝ) (U Rb : Fin 64 → Fin 64 → ℝ) :
    YV (cv (φ := .f32) X) (cv (φ := .f32) U) (cv (φ := .f32) Rb) = cv (φ := .f32) (subR (colR X) (mulR U Rb)) := by
  unfold YV
  rw [rt_cv, p0_cv, p1_cv, p2_cv, p0_cv, p1_cv, p2_cv, dotU_cv]
  funext i; exact (EReal.coe_sub _ _).symm

/-- The next state. -/
theorem SV_cv (S U V k b : Fin 64 → Fin 64 → ℝ) (row : Fin 1 → Fin 64 → ℝ) :
    SV (cv (φ := .f32) S) (cv (φ := .f32) U) (cv (φ := .bf16) V) (cv k) (cv fun _ _ => 0) (cv fun _ _ => 0) (cv b) (cv fun _ _ => 0) (cv fun _ _ => 0)
        (cv (φ := .f32) row)
      = cv (φ := .f32) (fun i e => (S i e + mulR V k i e - mulR U b i e) * row 0 e) := by
  unfold SV
  rw [p0_cv, p1_cv, p2_cv, dot3K_cv, dotU_cv]
  funext i; idx_vars i; pointwise [cv_ix2]
  rw [EReal.coe_mul, EReal.coe_sub, EReal.coe_add]

/-- The decay over the whole first chunk. -/
theorem row0_cv (P : Fin 64 → Fin 128 → ℝ) : row0 (cv (φ := .f32) P) = cv (φ := .f32) (fun _ e => P e ⟨63, by decide⟩) := by
  funext i; idx_vars i; pointwise [row0, cv_ix2]
/-- The decay over the whole second chunk. -/
theorem row1_cv (P : Fin 64 → Fin 128 → ℝ) : row1 (cv (φ := .f32) P) = cv (φ := .f32) (fun _ e => P e ⟨127, by decide⟩) := by
  funext i; idx_vars i; pointwise [row1, cv_ix2]

end Cert.KernelIdeal.Head

end
-- ==== Proof.SemInv.lean ====
/- The kernel's inverse of the two triangular matrices, on arrays of reals. -/
module

public import proofs.«01_k».proof.Proof.SemOps

@[expose] public section

set_option maxRecDepth 16384

noncomputable section

namespace Cert.KernelIdeal.Head

open Idealize.ShloMosaic Idealize.SL.Sem Cert.KernelIdeal Cert.KernelIdeal.Gen Wkv

/-- The diagonal blocks of two matrices side by side. -/
def DR (M : Fin 64 → Fin 128 → ℝ) : Fin 32 → Fin 128 → ℝ := fun i j =>
  if j.val / 32 % 2 = 0 then M ⟨i.val, by omega⟩ j else M ⟨32 + i.val, by omega⟩ j
/-- The blocks above the diagonal, zero elsewhere. -/
def FR (M : Fin 64 → Fin 128 → ℝ) : Fin 32 → Fin 128 → ℝ := fun i j =>
  if j.val / 32 % 2 = 0 then 0 else M ⟨i.val, by omega⟩ j

/-- The four diagonal blocks, on reals. -/
theorem DV_cv (M : Fin 64 → Fin 128 → ℝ) : DV (cv (φ := .f32) M) = cv (φ := .f32) (DR M) := by
  funext i; idx_vars i; pointwise [DV, top, cv_ix2, DR, evenMask_apply, sel_ite]
  rw [ite_coe]
/-- The two blocks above the diagonal, on reals. -/
theorem FV_cv (M : Fin 64 → Fin 128 → ℝ) : FV (cv (φ := .f32) M) = cv (φ := .f32) (FR M) := by
  funext i; idx_vars i; pointwise [FV, top, cv_ix2, FR, evenMask_apply, sel_ite]
  rw [← EReal.coe_zero, ite_coe]
/-- The four identity blocks, on reals. -/
theorem N0_cv : N0 (F := Ideal) = cv (φ := .f32) idR := by
  funext i; idx_vars i; pointwise [N0, cv_ix2, idR, idMask_apply, sel_ite]
  rw [← EReal.coe_zero, ← EReal.coe_one, ite_coe]

/-! ### One step of the substitution -/

/-- The column a gather reads lies in its own block. -/
theorem gather_ix (n : Fin 32) (s : Fin 8) (t : Fin 128) (h : (gidx (BitVec.ofNat 32 n.val) (ix2 s t)).toNat % 128 < 128) :
    (⟨(gidx (BitVec.ofNat 32 n.val) (ix2 s t)).toNat % 128, h⟩ : Fin 128) = bcol t n := by
  apply Fin.ext
  show (gidx (BitVec.ofNat 32 n.val) (ix2 s t)).toNat % 128 = 32 * (t.val / 32) + n.val
  rw [gidx_apply, Nat.mod_eq_of_lt (by omega)]

/-- One row of group 0 after a step, on reals. -/
theorem upd0_cv (D N : Fin 32 → Fin 128 → ℝ) (s : Fin 32) (a : Fin 8) (t : Fin 128) :
    upd (cv (φ := .f32) D) (cv (φ := .f32) N) s.val s.isLt 0 (ix2 a t) = ((stepR D N s ⟨a.val, by omega⟩ t : ℝ) : EReal) := by
  unfold upd
  pointwise [rows8, cv_ix2, stepR]
  rw [← EReal.coe_mul, ← EReal.coe_sub, gather_ix]

/-- Rows of group 0, on reals. -/
theorem rows0_cv (N : Fin 32 → Fin 128 → ℝ) (a : Fin 8) (t : Fin 128) :
    rows8 0 (cv (φ := .f32) N) (ix2 a t) = ((N ⟨a.val, by omega⟩ t : ℝ) : EReal) := by
  pointwise [rows8, cv_ix2]

/-- One row of group 1 after a step, on reals. -/
theorem upd1_cv (D N : Fin 32 → Fin 128 → ℝ) (s : Fin 32) (a : Fin 8) (t : Fin 128) :
    upd (cv (φ := .f32) D) (cv (φ := .f32) N) s.val s.isLt 1 (ix2 a t) = ((stepR D N s ⟨8 + a.val, by omega⟩ t : ℝ) : EReal) := by
  unfold upd
  pointwise [rows8, cv_ix2, stepR]
  rw [← EReal.coe_mul, ← EReal.coe_sub, gather_ix]

/-- Rows of group 1, on reals. -/
theorem rows1_cv (N : Fin 32 → Fin 128 → ℝ) (a : Fin 8) (t : Fin 128) :
    rows8 1 (cv (φ := .f32) N) (ix2 a t) = ((N ⟨8 + a.val, by omega⟩ t : ℝ) : EReal) := by
  pointwise [rows8, cv_ix2]

/-- One row of group 2 after a step, on reals. -/
theorem upd2_cv (D N : Fin 32 → Fin 128 → ℝ) (s : Fin 32) (a : Fin 8) (t : Fin 128) :
    upd (cv (φ := .f32) D) (cv (φ := .f32) N) s.val s.isLt 2 (ix2 a t) = ((stepR D N s ⟨16 + a.val, by omega⟩ t : ℝ) : EReal) := by
  unfold upd
  pointwise [rows8, cv_ix2, stepR]
  rw [← EReal.coe_mul, ← EReal.coe_sub, gather_ix]

/-- Rows of group 2, on reals. -/
theorem rows2_cv (N : Fin 32 → Fin 128 → ℝ) (a : Fin 8) (t : Fin 128) :
    rows8 2 (cv (φ := .f32) N) (ix2 a t) = ((N ⟨16 + a.val, by omega⟩ t : ℝ) : EReal) := by
  pointwise [rows8, cv_ix2]

/-- One row of group 3 after a step, on reals. -/
theorem upd3_cv (D N : Fin 32 → Fin 128 → ℝ) (s : Fin 32) (a : Fin 8) (t : Fin 128) :
    upd (cv (φ := .f32) D) (cv (φ := .f32) N) s.val s.isLt 3 (ix2 a t) = ((stepR D N s ⟨24 + a.val, by omega⟩ t : ℝ) : EReal) := by
  unfold upd
  pointwise [rows8, cv_ix2, stepR]
  rw [← EReal.coe_mul, ← EReal.coe_sub, gather_ix]

/-- Rows of group 3, on reals. -/
theorem rows3_cv (N : Fin 32 → Fin 128 → ℝ) (a : Fin 8) (t : Fin 128) :
    rows8 3 (cv (φ := .f32) N) (ix2 a t) = ((N ⟨24 + a.val, by omega⟩ t : ℝ) : EReal) := by
  pointwise [rows8, cv_ix2]

/-- Rows from the pivot downwards do not change. -/
theorem stepR_of_le {D : Fin 32 → Fin 128 → ℝ} (hD : Upper D) (N : Fin 32 → Fin 128 → ℝ) (s i : Fin 32) (h : s.val ≤ i.val) (t : Fin 128) :
    stepR D N s i t = N i t := by
  unfold stepR
  rw [hD i _ (by rw [bcol_mod]; exact h), zero_mul, sub_zero]

/-- Four groups of eight rows that are each a group of one matrix. -/
theorem cat4_cv (Z : Fin 32 → Fin 128 → ℝ) (x0 x1 x2 x3 : FVec Ideal S8x128 .f32)
    (h0 : ∀ a t, x0 (ix2 a t) = ((Z ⟨a.val, by omega⟩ t : ℝ) : EReal)) (h1 : ∀ a t, x1 (ix2 a t) = ((Z ⟨8 + a.val, by omega⟩ t : ℝ) : EReal))
    (h2 : ∀ a t, x2 (ix2 a t) = ((Z ⟨16 + a.val, by omega⟩ t : ℝ) : EReal)) (h3 : ∀ a t, x3 (ix2 a t) = ((Z ⟨24 + a.val, by omega⟩ t : ℝ) : EReal)) :
    cat4 x0 x1 x2 x3 = cv (φ := .f32) Z := by
  funext i; idx_vars i
  pointwise [cat4, cv_ix2]
  have key : ∀ (b : Nat) (hb : b < 32), b = i0.val → ((Z ⟨b, hb⟩ i1 : ℝ) : EReal) = ((Z i0 i1 : ℝ) : EReal) := by
    intro b hb e; subst e; rfl
  split
  · rw [h0]
  · split
    · rw [h1]; exact key _ _ (by show 8 + (i0.val - 8) = _; omega)
    · split
      · rw [h2]; exact key _ _ (by show 16 + (i0.val - 8 - 8) = _; omega)
      · rw [h3]; exact key _ _ (by show 24 + (i0.val - 8 - 8 - 8) = _; omega)

section
variable {D : Fin 32 → Fin 128 → ℝ} (hD : Upper D) (N : Fin 32 → Fin 128 → ℝ)
include hD

/-- A step of back substitution that touches all four groups of rows. -/
theorem step4_cv (s : Fin 32) : step4 (cv (φ := .f32) D) (cv (φ := .f32) N) s.val s.isLt = cv (φ := .f32) (stepR D N s) :=
  cat4_cv _ _ _ _ _ (upd0_cv D N s) (upd1_cv D N s) (upd2_cv D N s) (upd3_cv D N s)
/-- A step that touches three groups of rows. -/
theorem step3_cv (s : Fin 32) (h : s.val ≤ 24) : step3 (cv (φ := .f32) D) (cv (φ := .f32) N) s.val s.isLt = cv (φ := .f32) (stepR D N s) :=
  cat4_cv _ _ _ _ _ (upd0_cv D N s) (upd1_cv D N s) (upd2_cv D N s) (fun a t => by rw [rows3_cv, stepR_of_le hD N s _ (by show s.val ≤ 24 + a.val; omega)])
/-- A step that touches two groups of rows. -/
theorem step2_cv (s : Fin 32) (h : s.val ≤ 16) : step2 (cv (φ := .f32) D) (cv (φ := .f32) N) s.val s.isLt = cv (φ := .f32) (stepR D N s) :=
  cat4_cv _ _ _ _ _ (upd0_cv D N s) (upd1_cv D N s) (fun a t => by rw [rows2_cv, stepR_of_le hD N s _ (by show s.val ≤ 16 + a.val; omega)]) (fun a t => by rw [rows3_cv, stepR_of_le hD N s _ (by show s.val ≤ 24 + a.val; omega)])
/-- A step that touches one group of rows. -/
theorem step1_cv (s : Fin 32) (h : s.val ≤ 8) : step1 (cv (φ := .f32) D) (cv (φ := .f32) N) s.val s.isLt = cv (φ := .f32) (stepR D N s) :=
  cat4_cv _ _ _ _ _ (upd0_cv D N s) (fun a t => by rw [rows1_cv, stepR_of_le hD N s _ (by show s.val ≤ 8 + a.val; omega)]) (fun a t => by rw [rows2_cv, stepR_of_le hD N s _ (by show s.val ≤ 16 + a.val; omega)]) (fun a t => by rw [rows3_cv, stepR_of_le hD N s _ (by show s.val ≤ 24 + a.val; omega)])
end

/-! ### All 31 steps -/

section
variable {D : Fin 32 → Fin 128 → ℝ} (hD : Upper D)
include hD

/-- The inverse so far after the step of row 31, on reals. -/
theorem N_31_cv : N_31 (cv (φ := .f32) D) = cv (φ := .f32) (NR D 1) := by
  unfold N_31; rw [N0_cv]; exact step4_cv hD _ ⟨31, by decide⟩
/-- The inverse so far after the step of row 30, on reals. -/
theorem N_30_cv : N_30 (cv (φ := .f32) D) = cv (φ := .f32) (NR D 2) := by
  unfold N_30; rw [N_31_cv hD]; exact step4_cv hD _ ⟨30, by decide⟩
/-- The inverse so far after the step of row 29, on reals. -/
theorem N_29_cv : N_29 (cv (φ := .f32) D) = cv (φ := .f32) (NR D 3) := by
  unfold N_29; rw [N_30_cv hD]; exact step4_cv hD _ ⟨29, by decide⟩
/-- The inverse so far after the step of row 28, on reals. -/
theorem N_28_cv : N_28 (cv (φ := .f32) D) = cv (φ := .f32) (NR D 4) := by
  unfold N_28; rw [N_29_cv hD]; exact step4_cv hD _ ⟨28, by decide⟩
/-- The inverse so far after the step of row 27, on reals. -/
theorem N_27_cv : N_27 (cv (φ := .f32) D) = cv (φ := .f32) (NR D 5) := by
  unfold N_27; rw [N_28_cv hD]; exact step4_cv hD _ ⟨27, by decide⟩
/-- The inverse so far after the step of row 26, on reals. -/
theorem N_26_cv : N_26 (cv (φ := .f32) D) = cv (φ := .f32) (NR D 6) := by
  unfold N_26; rw [N_27_cv hD]; exact step4_cv hD _ ⟨26, by decide⟩
/-- The inverse so far after the step of row 25, on reals. -/
theorem N_25_cv : N_25 (cv (φ := .f32) D) = cv (φ := .f32) (NR D 7) := by
  unfold N_25; rw [N_26_cv hD]; exact step4_cv hD _ ⟨25, by decide⟩
/-- The inverse so far after the step of row 24, on reals. -/
theorem N_24_cv : N_24 (cv (φ := .f32) D) = cv (φ := .f32) (NR D 8) := by
  unfold N_24; rw [N_25_cv hD]; exact step3_cv hD _ ⟨24, by decide⟩ (by decide)
/-- The inverse so far after the step of row 23, on reals. -/
theorem N_23_cv : N_23 (cv (φ := .f32) D) = cv (φ := .f32) (NR D 9) := by
  unfold N_23; rw [N_24_cv hD]; exact step3_cv hD _ ⟨23, by decide⟩ (by decide)
/-- The inverse so far after the step of row 22, on reals. -/
theorem N_22_cv : N_22 (cv (φ := .f32) D) = cv (φ := .f32) (NR D 10) := by
  unfold N_22; rw [N_23_cv hD]; exact step3_cv hD _ ⟨22, by decide⟩ (by decide)
/-- The inverse so far after the step of row 21, on reals. -/
theorem N_21_cv : N_21 (cv (φ := .f32) D) = cv (φ := .f32) (NR D 11) := by
  unfold N_21; rw [N_22_cv hD]; exact step3_cv hD _ ⟨21, by decide⟩ (by decide)
/-- The inverse so far after the step of row 20, on reals. -/
theorem N_20_cv : N_20 (cv (φ := .f32) D) = cv (φ := .f32) (NR D 12) := by
  unfold N_20; rw [N_21_cv hD]; exact step3_cv hD _ ⟨20, by decide⟩ (by decide)
/-- The inverse so far after the step of row 19, on reals. -/
theorem N_19_cv : N_19 (cv (φ := .f32) D) = cv (φ := .f32) (NR D 13) := by
  unfold N_19; rw [N_20_cv hD]; exact step3_cv hD _ ⟨19, by decide⟩ (by decide)
/-- The inverse so far after the step of row 18, on reals. -/
theorem N_18_cv : N_18 (cv (φ := .f32) D) = cv (φ := .f32) (NR D 14) := by
  unfold N_18; rw [N_19_cv hD]; exact step3_cv hD _ ⟨18, by decide⟩ (by decide)
/-- The inverse so far after the step of row 17, on reals. -/
theorem N_17_cv : N_17 (cv (φ := .f32) D) = cv (φ := .f32) (NR D 15) := by
  unfold N_17; rw [N_18_cv hD]; exact step3_cv hD _ ⟨17, by decide⟩ (by decide)
/-- The inverse so far after the step of row 16, on reals. -/
theorem N_16_cv : N_16 (cv (φ := .f32) D) = cv (φ := .f32) (NR D 16) := by
  unfold N_16; rw [N_17_cv hD]; exact step2_cv hD _ ⟨16, by decide⟩ (by decide)
/-- The inverse so far after the step of row 15, on reals. -/
theorem N_15_cv : N_15 (cv (φ := .f32) D) = cv (φ := .f32) (NR D 17) := by
  unfold N_15; rw [N_16_cv hD]; exact step2_cv hD _ ⟨15, by decide⟩ (by decide)
/-- The inverse so far after the step of row 14, on reals. -/
theorem N_14_cv : N_14 (cv (φ := .f32) D) = cv (φ := .f32) (NR D 18) := by
  unfold N_14; rw [N_15_cv hD]; exact step2_cv hD _ ⟨14, by decide⟩ (by decide)
/-- The inverse so far after the step of row 13, on reals. -/
theorem N_13_cv : N_13 (cv (φ := .f32) D) = cv (φ := .f32) (NR D 19) := by
  unfold N_13; rw [N_14_cv hD]; exact step2_cv hD _ ⟨13, by decide⟩ (by decide)
/-- The inverse so far after the step of row 12, on reals. -/
theorem N_12_cv : N_12 (cv (φ := .f32) D) = cv (φ := .f32) (NR D 20) := by
  unfold N_12; rw [N_13_cv hD]; exact step2_cv hD _ ⟨12, by decide⟩ (by decide)
/-- The inverse so far after the step of row 11, on reals. -/
theorem N_11_cv : N_11 (cv (φ := .f32) D) = cv (φ := .f32) (NR D 21) := by
  unfold N_11; rw [N_12_cv hD]; exact step2_cv hD _ ⟨11, by decide⟩ (by decide)
/-- The inverse so far after the step of row 10, on reals. -/
theorem N_10_cv : N_10 (cv (φ := .f32) D) = cv (φ := .f32) (NR D 22) := by
  unfold N_10; rw [N_11_cv hD]; exact step2_cv hD _ ⟨10, by decide⟩ (by decide)
/-- The inverse so far after the step of row 9, on reals. -/
theorem N_9_cv : N_9 (cv (φ := .f32) D) = cv (φ := .f32) (NR D 23) := by
  unfold N_9; rw [N_10_cv hD]; exact step2_cv hD _ ⟨9, by decide⟩ (by decide)
/-- The inverse so far after the step of row 8, on reals. -/
theorem N_8_cv : N_8 (cv (φ := .f32) D) = cv (φ := .f32) (NR D 24) := by
  unfold N_8; rw [N_9_cv hD]; exact step1_cv hD _ ⟨8, by decide⟩ (by decide)
/-- The inverse so far after the step of row 7, on reals. -/
theorem N_7_cv : N_7 (cv (φ := .f32) D) = cv (φ := .f32) (NR D 25) := by
  unfold N_7; rw [N_8_cv hD]; exact step1_cv hD _ ⟨7, by decide⟩ (by decide)
/-- The inverse so far after the step of row 6, on reals. -/
theorem N_6_cv : N_6 (cv (φ := .f32) D) = cv (φ := .f32) (NR D 26) := by
  unfold N_6; rw [N_7_cv hD]; exact step1_cv hD _ ⟨6, by decide⟩ (by decide)
/-- The inverse so far after the step of row 5, on reals. -/
theorem N_5_cv : N_5 (cv (φ := .f32) D) = cv (φ := .f32) (NR D 27) := by
  unfold N_5; rw [N_6_cv hD]; exact step1_cv hD _ ⟨5, by decide⟩ (by decide)
/-- The inverse so far after the step of row 4, on reals. -/
theorem N_4_cv : N_4 (cv (φ := .f32) D) = cv (φ := .f32) (NR D 28) := by
  unfold N_4; rw [N_5_cv hD]; exact step1_cv hD _ ⟨4, by decide⟩ (by decide)
/-- The inverse so far after the step of row 3, on reals. -/
theorem N_3_cv : N_3 (cv (φ := .f32) D) = cv (φ := .f32) (NR D 29) := by
  unfold N_3; rw [N_4_cv hD]; exact step1_cv hD _ ⟨3, by decide⟩ (by decide)
/-- The inverse so far after the step of row 2, on reals. -/
theorem N_2_cv : N_2 (cv (φ := .f32) D) = cv (φ := .f32) (NR D 30) := by
  unfold N_2; rw [N_3_cv hD]; exact step1_cv hD _ ⟨2, by decide⟩ (by decide)
/-- The inverse so far after the step of row 1, on reals. -/
theorem N_1_cv : N_1 (cv (φ := .f32) D) = cv (φ := .f32) (NR D 31) := by
  unfold N_1; rw [N_2_cv hD]; exact step1_cv hD _ ⟨1, by decide⟩ (by decide)

end

/-! ### The blocks above the diagonal -/

/-- Blocks 1 and 3 on the block diagonal. -/
def diagR (N : Fin 32 → Fin 128 → ℝ) : Fin 128 → Fin 128 → ℝ := fun i j =>
  if i.val / 32 = j.val / 32 ∧ j.val / 32 % 2 = 1 then N ⟨i.val % 32, by omega⟩ j else 0
/-- Blocks 1 and 3 one block above the diagonal. -/
def superR (N : Fin 32 → Fin 128 → ℝ) : Fin 128 → Fin 128 → ℝ := fun i j =>
  if i.val / 32 + 1 = j.val / 32 ∧ j.val / 32 % 2 = 1 then N ⟨i.val % 32, by omega⟩ j else 0

/-- Only block 1 kept. -/
theorem only1_cv (N : Fin 32 → Fin 128 → ℝ) (a : Fin 32) (t : Fin 128) :
    only 1#32 (cv (φ := .bf16) N) (ix2 a t) = ((if t.val / 32 = 1 then N a t else 0 : ℝ) : EReal) := by
  pointwise [only, cv_ix2, blkMask1_apply, sel_ite]
  rw [← EReal.coe_zero, ite_coe]
/-- Only block 3 kept. -/
theorem only3_cv (N : Fin 32 → Fin 128 → ℝ) (a : Fin 32) (t : Fin 128) :
    only 3#32 (cv (φ := .bf16) N) (ix2 a t) = ((if t.val / 32 = 3 then N a t else 0 : ℝ) : EReal) := by
  pointwise [only, cv_ix2, blkMask3_apply, sel_ite]
  rw [← EReal.coe_zero, ite_coe]

/-- Four blocks of 32 rows that are each a block of one matrix. -/
theorem cat4r_cv (Z : Fin 128 → Fin 128 → ℝ) (x0 x1 x2 x3 : FVec Ideal S32x128 .bf16)
    (h0 : ∀ a t, x0 (ix2 a t) = ((Z ⟨a.val, by omega⟩ t : ℝ) : EReal)) (h1 : ∀ a t, x1 (ix2 a t) = ((Z ⟨32 + a.val, by omega⟩ t : ℝ) : EReal))
    (h2 : ∀ a t, x2 (ix2 a t) = ((Z ⟨64 + a.val, by omega⟩ t : ℝ) : EReal)) (h3 : ∀ a t, x3 (ix2 a t) = ((Z ⟨96 + a.val, by omega⟩ t : ℝ) : EReal)) :
    cat4r x0 x1 x2 x3 = cv (φ := .bf16) Z := by
  funext i; idx_vars i
  pointwise [cat4r, cv_ix2]
  have key : ∀ (b : Nat) (hb : b < 128), b = i0.val → ((Z ⟨b, hb⟩ i1 : ℝ) : EReal) = ((Z i0 i1 : ℝ) : EReal) := by
    intro b hb e; subst e; rfl
  split
  · rw [h0]
  · split
    · rw [h1]; exact key _ _ (by show 32 + (i0.val - 32) = _; omega)
    · split
      · rw [h2]; exact key _ _ (by show 64 + (i0.val - 32 - 32) = _; omega)
      · rw [h3]; exact key _ _ (by show 96 + (i0.val - 32 - 32 - 32) = _; omega)

/-- The zero block. -/
theorem zero_bc (a : Fin 32) (t : Fin 128) :
    broadcast S32x128 (Scalar.ofBits (F := Ideal) .bf16 0x0000#16) (ix2 a t) = ((0 : ℝ) : EReal) := by
  pointwise []
  rfl

/-- A choice between reals, as a real. -/
theorem coe_ite_congr {p q : Prop} [Decidable p] [Decidable q] (h : p ↔ q) {x y : ℝ} (e : x = y) :
    ((if p then x else 0 : ℝ) : EReal) = ((if q then y else 0 : ℝ) : EReal) := by subst e; rw [if_congr h rfl rfl]

/-- Blocks 1 and 3 placed on their rows. -/
theorem diag13_cv (N : Fin 32 → Fin 128 → ℝ) : diag13 (cv (φ := .bf16) N) = cv (φ := .bf16) (diagR N) := by
  have hm : ∀ (c : Nat) (a : Fin 32) (h : (32 * c + a.val) % 32 < 32), (⟨(32 * c + a.val) % 32, h⟩ : Fin 32) = a := by
    intro c a h; apply Fin.ext; show (32 * c + a.val) % 32 = a.val; omega
  refine cat4r_cv (diagR N) _ _ _ _ ?_ ?_ ?_ ?_
  · intro a t; rw [zero_bc]; unfold diagR; rw [if_neg]; simp only; omega
  · intro a t; rw [only1_cv]; unfold diagR; exact coe_ite_congr (by simp only; omega) (congrArg (fun x => N x t) (hm 1 a _).symm)
  · intro a t; rw [zero_bc]; unfold diagR; rw [if_neg]; simp only; omega
  · intro a t; rw [only3_cv]; unfold diagR; exact coe_ite_congr (by simp only; omega) (congrArg (fun x => N x t) (hm 3 a _).symm)

/-- Blocks 1 and 3 placed one block up. -/
theorem super13_cv (N : Fin 32 → Fin 128 → ℝ) : super13 (cv (φ := .bf16) N) = cv (φ := .bf16) (superR N) := by
  have hm : ∀ (c : Nat) (a : Fin 32) (h : (32 * c + a.val) % 32 < 32), (⟨(32 * c + a.val) % 32, h⟩ : Fin 32) = a := by
    intro c a h; apply Fin.ext; show (32 * c + a.val) % 32 = a.val; omega
  have h0 : ∀ (a : Fin 32) (h : a.val % 32 < 32), (⟨a.val % 32, h⟩ : Fin 32) = a := by
    intro a h; apply Fin.ext; show a.val % 32 = a.val; omega
  refine cat4r_cv (superR N) _ _ _ _ ?_ ?_ ?_ ?_
  · intro a t; rw [only1_cv]; unfold superR; exact coe_ite_congr (by simp only; omega) (congrArg (fun x => N x t) (h0 a _).symm)
  · intro a t; rw [zero_bc]; unfold superR; rw [if_neg]; simp only; omega
  · intro a t; rw [only3_cv]; unfold superR; exact coe_ite_congr (by simp only; omega) (congrArg (fun x => N x t) (hm 2 a _).symm)
  · intro a t; rw [zero_bc]; unfold superR; rw [if_neg]; simp only; omega

/-- Placing zeros gives zeros. -/
theorem diagR_zero : diagR (fun _ _ => 0) = fun _ _ => 0 := by funext i j; unfold diagR; split <;> rfl
/-- Placing zeros one block up gives zeros. -/
theorem superR_zero : superR (fun _ _ => 0) = fun _ _ => 0 := by funext i j; unfold superR; split <;> rfl

/-- The upper block times the second inverse, on reals. -/
theorem QV_cv (Fm N : Fin 32 → Fin 128 → ℝ) : QV (cv (φ := .f32) Fm) (cv (φ := .f32) N) = cv (φ := .f32) (mulR Fm (diagR N)) := by
  unfold QV
  rw [p0_cv, p1_cv, p2_cv, p0_cv, p1_cv, p2_cv, diag13_cv, diag13_cv, diagR_zero, dotQ_cv]
/-- The first inverse times that, on reals. -/
theorem N12V_cv (Q N : Fin 32 → Fin 128 → ℝ) : N12V (cv (φ := .f32) Q) (cv (φ := .f32) N) = cv (φ := .f32) (mulR N (superR Q)) := by
  unfold N12V
  rw [p0_cv, p1_cv, p2_cv, p0_cv, p1_cv, p2_cv, super13_cv, super13_cv, superR_zero, dotQ_cv]

/-- The two inverses side by side. -/
def NfullR (N N12 : Fin 32 → Fin 128 → ℝ) : Fin 64 → Fin 128 → ℝ := fun i j =>
  if h : i.val < 32 then (if j.val / 32 % 2 = 0 then N ⟨i.val, h⟩ j else -N12 ⟨i.val, h⟩ j)
  else (if j.val / 32 % 2 = 0 then 0 else N ⟨i.val - 32, by omega⟩ j)

/-- Zero minus a real. -/
theorem zero_sub_coe (x : ℝ) : (0 : EReal) - (x : EReal) = ((-x : ℝ) : EReal) := by rw [← EReal.coe_zero, ← EReal.coe_sub, zero_sub]

/-- The two inverses put together, on reals. -/
theorem NfullV_cv (N N12 : Fin 32 → Fin 128 → ℝ) : NfullV (cv (φ := .f32) N) (cv (φ := .f32) N12) = cv (φ := .f32) (NfullR N N12) := by
  funext i; idx_vars i; pointwise [NfullV, cv_ix2, NfullR, evenMask_apply, sel_ite]
  split
  · split
    · rfl
    · exact zero_sub_coe _
  · split <;> rfl

/-- Both inverses of the matrices side by side in `M`. -/
def inverseR (M : Fin 64 → Fin 128 → ℝ) : Fin 64 → Fin 128 → ℝ :=
  NfullR (NR (DR M) 31) (mulR (NR (DR M) 31) (superR (mulR (FR M) (diagR (NR (DR M) 31)))))

/-- The kernel's inverse, on reals. -/
theorem inverseV_cv (M : Fin 64 → Fin 128 → ℝ) (hD : Upper (DR M)) : inverseV (cv (φ := .f32) M) = cv (φ := .f32) (inverseR M) := by
  unfold inverseV inverseR
  rw [DV_cv, FV_cv, N_1_cv hD, QV_cv, N12V_cv, NfullV_cv]

/-! ### They are the inverses -/

/-- A sum over 128 columns that lives on one block. -/
theorem sum_block (β : Fin 4) (f : Fin 128 → ℝ) (g : Fin 32 → ℝ) :
    (∑ l : Fin 128, f l * (if l.val / 32 = β.val then g ⟨l.val % 32, by omega⟩ else 0)) = ∑ m : Fin 32, f ⟨32 * β.val + m.val, by omega⟩ * g m := by
  rw [← Equiv.sum_comp (finProdFinEquiv (m := 4) (n := 32)), Fintype.sum_prod_type, Finset.sum_eq_single β]
  · refine Finset.sum_congr rfl fun m _ => ?_
    have e : (finProdFinEquiv (β, m) : Fin (4 * 32)) = ⟨32 * β.val + m.val, by omega⟩ := by
      apply Fin.ext; show m.val + 32 * β.val = _; simp only; omega
    rw [e, if_pos (by simp only; omega)]
    congr 2
    apply Fin.ext; show (32 * β.val + m.val) % 32 = m.val; omega
  · intro b _ hb
    refine Finset.sum_eq_zero fun m _ => ?_
    rw [if_neg, mul_zero]
    show ¬(m.val + 32 * b.val) / 32 = β.val
    intro e; apply hb; apply Fin.ext; omega
  · intro h; exact absurd (Finset.mem_univ _) h

/-- Strictly upper triangular, twice. -/
def Upper2 (M : Fin 64 → Fin 128 → ℝ) : Prop := ∀ i j, j.val % 64 ≤ i.val → M i j = 0

/-- The diagonal blocks of a strictly upper matrix are strictly upper. -/
theorem upper_DR {M : Fin 64 → Fin 128 → ℝ} (h : Upper2 M) : Upper (DR M) := by
  intro i j hij
  unfold DR
  split
  · exact h _ _ (by simp only; omega)
  · exact h _ _ (by simp only; omega)

/-- The block above the diagonal of the `q`-th matrix. -/
def above (M : Fin 64 → Fin 128 → ℝ) (q : Fin 2) : Matrix (Fin 32) (Fin 32) ℝ := fun a b => M ⟨a.val, by omega⟩ ⟨64 * q.val + 32 + b.val, by omega⟩
/-- The `q`-th matrix. -/
def half (M : Fin 64 → Fin 128 → ℝ) (q : Fin 2) : Matrix (Fin 64) (Fin 64) ℝ := fun i j => M i ⟨64 * q.val + j.val, by omega⟩

/-- The corner block of the inverse. -/
theorem N12_apply (M : Fin 64 → Fin 128 → ℝ) (N : Fin 32 → Fin 128 → ℝ) (q : Fin 2) (i j : Fin 32) :
    mulR N (superR (mulR (FR M) (diagR N))) i ⟨64 * q.val + 32 + j.val, by omega⟩
      = (blkR N ⟨2 * q.val, by omega⟩ * (above M q
          * blkR N ⟨2 * q.val + 1, by omega⟩)) i j := by
  have hq : ∀ l : Fin 32, mulR (FR M) (diagR N) l ⟨64 * q.val + 32 + j.val, by omega⟩
      = ∑ m : Fin 32, M ⟨l.val, by omega⟩ ⟨64 * q.val + 32 + m.val, by omega⟩ * blkR N ⟨2 * q.val + 1, by omega⟩ m j := by
    intro l
    have h := sum_block ⟨2 * q.val + 1, by omega⟩ (FR M l) (fun m => N m ⟨64 * q.val + 32 + j.val, by omega⟩)
    refine Eq.trans (Eq.trans ?_ h) ?_
    · refine Finset.sum_congr rfl fun x _ => ?_
      congr 1
      unfold diagR
      refine if_congr ?_ rfl rfl
      simp only; omega
    · refine Finset.sum_congr rfl fun m _ => ?_
      unfold FR blkR
      rw [if_neg (by simp only; omega)]
      congr 2
      · apply Fin.ext; show 32 * (2 * q.val + 1) + m.val = _; simp only; omega
      · apply Fin.ext; show _ = 32 * (2 * q.val + 1) + j.val; simp only; omega
  rw [Matrix.mul_apply]
  have h := sum_block ⟨2 * q.val, by omega⟩ (N i) (fun m => mulR (FR M) (diagR N) m ⟨64 * q.val + 32 + j.val, by omega⟩)
  refine Eq.trans (Eq.trans ?_ h) ?_
  · refine Finset.sum_congr rfl fun x _ => ?_
    congr 1
    unfold superR
    refine if_congr ?_ rfl rfl
    simp only; omega
  · refine Finset.sum_congr rfl fun m _ => ?_
    rw [hq m, Matrix.mul_apply]
    rfl

/-- Each half of the result inverts its half of the input. -/
theorem inverse_half (M : Fin 64 → Fin 128 → ℝ) (hM : Upper2 M) (q : Fin 2) :
    half (inverseR M) q * (1 + half M q) = 1 := by
  have hD := upper_DR hM
  refine block_inverse _ _ (blkR (DR M) ⟨2 * q.val, by omega⟩)
    (above M q) (blkR (DR M) ⟨2 * q.val + 1, by omega⟩)
    (blkR (NR (DR M) 31) ⟨2 * q.val, by omega⟩) (blkR (NR (DR M) 31) ⟨2 * q.val + 1, by omega⟩)
    (blk_inv hD _) (blk_inv hD _) ?_ ?_ ?_ ?_ ?_ ?_ ?_ ?_
  · intro i j
    unfold half
    unfold blkR DR
    rw [if_pos (by simp only; omega)]
    congr 1; apply Fin.ext; show 64 * q.val + j.val = 32 * (2 * q.val) + j.val; omega
  · intro i j
    unfold half above
    congr 1; apply Fin.ext; show 64 * q.val + (32 + j.val) = 64 * q.val + 32 + j.val; omega
  · intro i j
    unfold half
    exact hM _ _ (by simp only; omega)
  · intro i j
    unfold half
    unfold blkR DR
    rw [if_neg (by simp only; omega)]
    congr 1; apply Fin.ext; show 64 * q.val + (32 + j.val) = 32 * (2 * q.val + 1) + j.val; omega
  · intro i j
    unfold half
    unfold inverseR NfullR blkR
    rw [dif_pos i.isLt, if_pos (by simp only; omega)]
    congr 1; apply Fin.ext; show 64 * q.val + j.val = 32 * (2 * q.val) + j.val; omega
  · intro i j
    rw [← N12_apply]
    unfold half
    unfold inverseR NfullR
    rw [dif_pos i.isLt, if_neg (by simp only; omega)]
    congr 2; apply Fin.ext; show 64 * q.val + (32 + j.val) = 64 * q.val + 32 + j.val; omega
  · intro i j
    unfold half
    unfold inverseR NfullR
    rw [dif_neg (by simp only; omega), if_pos (by simp only; omega)]
  · intro i j
    unfold half
    unfold inverseR NfullR blkR
    rw [dif_neg (by simp only; omega), if_neg (by simp only; omega)]
    congr 1
    · apply Fin.ext; show 32 + i.val - 32 = i.val; omega
    · apply Fin.ext; show 64 * q.val + (32 + j.val) = 32 * (2 * q.val + 1) + j.val; omega

/-- The left half. -/
theorem half_zero (M : Fin 64 → Fin 128 → ℝ) : half M 0 = colL M := by
  funext i j; unfold half colL; congr 1; apply Fin.ext; show 64 * 0 + j.val = j.val; omega
/-- The right half. -/
theorem half_one (M : Fin 64 → Fin 128 → ℝ) : half M 1 = colR M := rfl

end Cert.KernelIdeal.Head

end
-- ==== Proof.SemHead.lean ====
/- One head of a block on arrays of reals: its results and its next state are those of the recurrence. -/
module

public import proofs.«01_k».proof.Proof.SemChunk
public import proofs.«01_k».proof.Proof.SemInv
public import Idealize.ShloMosaic.PureOps.IdealRules

@[expose] public section

set_option maxRecDepth 16384

noncomputable section

namespace Cert.KernelIdeal.Head

open Idealize.ShloMosaic Idealize.SL.Sem Cert.KernelIdeal Cert.KernelIdeal.Gen Wkv

/-! ### Decays -/

/-- The named constant is minus the reciprocal of ln 2. -/
theorem named_log2e : Named.named (F := Ideal) κ "neg_log2e" (φ := .f32) 0xBFB8AA3B#32 = ((-(Real.log 2)⁻¹ : ℝ) : EReal) :=
  IdealRules.named_const.ideal_named_scalar _ _ _ _ rfl

/-- `log2` of the decay. -/
def lwR (w : Fin 64 → Fin 128 → ℝ) : Fin 64 → Fin 128 → ℝ := fun e t => Real.exp (w e t) * -(Real.log 2)⁻¹
/-- The ones of a running sum within a chunk. -/
def triR : Fin 128 → Fin 128 → ℝ := fun s t => if s.val ≤ t.val ∧ s.val / 64 = t.val / 64 then 1 else 0
/-- The running sum. -/
def cR (w : Fin 64 → Fin 128 → ℝ) : Fin 64 → Fin 128 → ℝ := mulR (lwR w) triR
/-- The decay through the token. -/
def PR (w : Fin 64 → Fin 128 → ℝ) : Fin 64 → Fin 128 → ℝ := fun e t => (2 : ℝ) ^ cR w e t
/-- Its inverse. -/
def PinvR (w : Fin 64 → Fin 128 → ℝ) : Fin 64 → Fin 128 → ℝ := fun e t => (2 : ℝ) ^ (-cR w e t)
/-- The decay before the token. -/
def PexR (w : Fin 64 → Fin 128 → ℝ) : Fin 64 → Fin 128 → ℝ := fun e t => (2 : ℝ) ^ (cR w e t - lwR w e t)

/-- The exponential of a real. -/
theorem exp_coe (x : ℝ) : Ideal.exp (x : EReal) = ((Real.exp x : ℝ) : EReal) := rfl
/-- The power of two of a real. -/
theorem exp2_coe (x : ℝ) : Ideal.exp2 (x : EReal) = (((2 : ℝ) ^ x : ℝ) : EReal) := rfl

/-- The log decays in base two, on reals. -/
theorem lwV_cv (w : Fin 64 → Fin 128 → ℝ) : lwV (cv (φ := .bf16) w) = cv (φ := .f32) (lwR w) := by
  funext i; idx_vars i; pointwise [lwV, cv_ix2, lwR, exp_coe, named_log2e]
  rw [EReal.coe_mul]
/-- The block triangle of ones, on reals. -/
theorem triV_cv : triV (F := Ideal) = cv (φ := .bf16) triR := by
  funext i; idx_vars i; pointwise [triV, cv_ix2, triR, triMask_apply, sel_ite]
  rw [← EReal.coe_zero, ← EReal.coe_one, ite_coe]
/-- The running sums of the log decays, on reals. -/
theorem cV_cv (w : Fin 64 → Fin 128 → ℝ) : cV (cv (φ := .bf16) w) = cv (φ := .f32) (cR w) := by
  unfold cV
  rw [lwV_cv, p0_cv, p1_cv, p2_cv, triV_cv, dot3C_cv]; rfl
/-- The running decays, on reals. -/
theorem PV_cv (w : Fin 64 → Fin 128 → ℝ) : PV (cv (φ := .bf16) w) = cv (φ := .f32) (PR w) := by
  unfold PV; rw [cV_cv]; rfl
/-- Their reciprocals, on reals. -/
theorem PinvV_cv (w : Fin 64 → Fin 128 → ℝ) : PinvV (cv (φ := .bf16) w) = cv (φ := .f32) (PinvR w) := by
  unfold PinvV; rw [cV_cv]
  funext i; idx_vars i; pointwise [cv_ix2, PinvR]
  rw [zero_sub_coe]; exact exp2_coe _
/-- The running decays without the current token, on reals. -/
theorem PexV_cv (w : Fin 64 → Fin 128 → ℝ) : PexV (cv (φ := .bf16) w) = cv (φ := .f32) (PexR w) := by
  unfold PexV; rw [cV_cv, lwV_cv]
  funext i; idx_vars i; pointwise [cv_ix2, PexR]
  rw [← EReal.coe_sub]; exact exp2_coe _

/-- A power of two by the exponential. -/
theorem two_rpow (x : ℝ) : (2 : ℝ) ^ x = Real.exp (Real.log 2 * x) := Real.rpow_def_of_pos (by norm_num) x

/-- The base-two constant cancels. -/
theorem log2_lw (x : ℝ) : Real.log 2 * (x * -(Real.log 2)⁻¹) = -x := by
  have : Real.log 2 ≠ 0 := (Real.log_pos (by norm_num)).ne'
  field_simp

section
variable {w : Fin 64 → Fin 128 → ℝ} {wl : Fin 64 → ℕ → ℝ} {T : ℕ} (hw : ∀ e t, w e t = wl e (T + t.val))
include hw

/-- The running sums over the first chunk. -/
theorem cR_low (e t : Fin 64) : Real.log 2 * cR w e ⟨t.val, by omega⟩ = ∑ s ∈ Finset.range (t.val + 1), -Real.exp (wl e (T + s)) := by
  unfold cR mulR triR
  rw [Fin.sum_univ_two_halves 64 64 rfl, sum_range_eq_masked _ t.isLt, mul_add, Finset.mul_sum, Finset.mul_sum]
  rw [Finset.sum_eq_zero (s := Finset.univ) (f := fun j : Fin 64 => Real.log 2 * (lwR w e ⟨64 + j.val, _⟩ * _)), add_zero]
  · refine Finset.sum_congr rfl fun s _ => ?_
    by_cases h : s.val < t.val + 1
    · rw [if_pos (by simp only; omega), if_pos h, mul_one]; unfold lwR; rw [log2_lw, hw]
    · rw [if_neg (by simp only; omega), if_neg h, mul_zero, mul_zero]
  · intro s _
    rw [if_neg (by simp only; omega), mul_zero, mul_zero]

/-- The running sums over the second chunk. -/
theorem cR_high (e t : Fin 64) : Real.log 2 * cR w e ⟨64 + t.val, by omega⟩ = ∑ s ∈ Finset.range (t.val + 1), -Real.exp (wl e (T + 64 + s)) := by
  unfold cR mulR triR
  rw [Fin.sum_univ_two_halves 64 64 rfl, sum_range_eq_masked _ t.isLt, mul_add, Finset.mul_sum, Finset.mul_sum]
  rw [Finset.sum_eq_zero (s := Finset.univ) (f := fun j : Fin 64 => Real.log 2 * (lwR w e ⟨j.val, _⟩ * _)), zero_add]
  · refine Finset.sum_congr rfl fun s _ => ?_
    by_cases h : s.val < t.val + 1
    · rw [if_pos (by simp only; omega), if_pos h, mul_one]; unfold lwR; rw [log2_lw, hw, Nat.add_assoc]
    · rw [if_neg (by simp only; omega), if_neg h, mul_zero, mul_zero]
  · intro s _
    rw [if_neg (by simp only; omega), mul_zero, mul_zero]

/-- The running decays of the first chunk are the recurrence's. -/
theorem PR_low (e t : Fin 64) : PR w e ⟨t.val, by omega⟩ = dec wl T (t.val + 1) e := by
  unfold PR dec; rw [two_rpow, cR_low hw]
/-- The running decays of the second chunk are the recurrence's. -/
theorem PR_high (e t : Fin 64) : PR w e ⟨64 + t.val, by omega⟩ = dec wl (T + 64) (t.val + 1) e := by
  unfold PR dec; rw [two_rpow, cR_high hw]
/-- Their reciprocals, first chunk. -/
theorem PinvR_low (e t : Fin 64) : PinvR w e ⟨t.val, by omega⟩ = (dec wl T (t.val + 1) e)⁻¹ := by
  unfold PinvR dec; rw [two_rpow, mul_neg, cR_low hw, Real.exp_neg]
/-- Their reciprocals, second chunk. -/
theorem PinvR_high (e t : Fin 64) : PinvR w e ⟨64 + t.val, by omega⟩ = (dec wl (T + 64) (t.val + 1) e)⁻¹ := by
  unfold PinvR dec; rw [two_rpow, mul_neg, cR_high hw, Real.exp_neg]
/-- The decays up to the token before, first chunk. -/
theorem PexR_low (e t : Fin 64) : PexR w e ⟨t.val, by omega⟩ = dec wl T t.val e := by
  unfold PexR dec; rw [two_rpow, mul_sub, cR_low hw, Finset.sum_range_succ]; unfold lwR; rw [log2_lw, hw]; congr 1; simp only; ring
/-- The decays up to the token before, second chunk. -/
theorem PexR_high (e t : Fin 64) : PexR w e ⟨64 + t.val, by omega⟩ = dec wl (T + 64) t.val e := by
  unfold PexR dec; rw [two_rpow, mul_sub, cR_high hw, Finset.sum_range_succ]; unfold lwR; rw [log2_lw, hw]; congr 1; simp only [Nat.add_assoc]; ring
end

/-! ### Scaled operands -/

/-- `kk` by the decay before the token. -/
def AR (w kk : Fin 64 → Fin 128 → ℝ) : Fin 64 → Fin 128 → ℝ := fun e t => kk e t * PexR w e t
/-- `kk · iclr` by the inverse decay. -/
def BR (w kk ic : Fin 64 → Fin 128 → ℝ) : Fin 64 → Fin 128 → ℝ := fun e t => kk e t * ic e t * PinvR w e t
/-- The receptance by the decay. -/
def RR (w r : Fin 64 → Fin 128 → ℝ) (rs : Fin 1 → Fin 128 → ℝ) : Fin 64 → Fin 128 → ℝ := fun e t => r e t * rs 0 t * PR w e t
/-- The key by the inverse decay. -/
def KR (w k : Fin 64 → Fin 128 → ℝ) (ks vs : Fin 1 → Fin 128 → ℝ) : Fin 64 → Fin 128 → ℝ := fun e t => k e t * (ks 0 t * vs 0 t) * PinvR w e t

/-- The decayed removal directions, on reals. -/
theorem AV_cv (w kk : Fin 64 → Fin 128 → ℝ) : AV (cv (φ := .bf16) w) (cv (φ := .bf16) kk) = cv (φ := .f32) (AR w kk) := by
  unfold AV; rw [PexV_cv]
  funext i; idx_vars i; pointwise [cv_ix2, AR]; rw [EReal.coe_mul]
/-- The write-back directions with the decay divided out, on reals. -/
theorem BV_cv (w kk ic : Fin 64 → Fin 128 → ℝ) : BV (cv (φ := .bf16) w) (cv (φ := .bf16) kk) (cv (φ := .bf16) ic) = cv (φ := .f32) (BR w kk ic) := by
  unfold BV; rw [PinvV_cv]
  funext i; idx_vars i; pointwise [cv_ix2, BR]; rw [EReal.coe_mul, EReal.coe_mul]
/-- The scaled and decayed receptances, on reals. -/
theorem RV_cv (w r : Fin 64 → Fin 128 → ℝ) (rs : Fin 1 → Fin 128 → ℝ) :
    RV (cv (φ := .bf16) w) (cv (φ := .fp8e4m3) r) (cv (φ := .f32) rs) = cv (φ := .f32) (RR w r rs) := by
  unfold RV; rw [PV_cv]
  funext i; idx_vars i; pointwise [cv_ix2, RR]; rw [EReal.coe_mul, EReal.coe_mul]
/-- The scaled keys with the decay divided out, on reals. -/
theorem KV_cv (w k : Fin 64 → Fin 128 → ℝ) (ks vs : Fin 1 → Fin 128 → ℝ) :
    KV (cv (φ := .bf16) w) (cv (φ := .fp8e4m3) k) (mulf (cv (φ := .f32) ks) (cv (φ := .f32) vs)) = cv (φ := .f32) (KR w k ks vs) := by
  unfold KV; rw [PinvV_cv]
  funext i; idx_vars i; pointwise [cv_ix2, KR]; rw [EReal.coe_mul, EReal.coe_mul, EReal.coe_mul]

/-! ### Both chunks -/

/-- The two strictly upper triangular matrices. -/
def MR (A B : Fin 64 → Fin 128 → ℝ) : Fin 64 → Fin 128 → ℝ := sideR (ltMat (colL B) (colL A)) (ltMat (colR B) (colR A))

/-- The two products to be inverted are strictly upper triangular. -/
theorem MR_upper (A B : Fin 64 → Fin 128 → ℝ) : Upper2 (MR A B) := by
  intro i j h
  unfold MR sideR ltMat
  split
  · rw [if_neg (by simp only; omega)]
  · rw [if_neg (by simp only; omega)]

/-- The removed directions of a chunk. -/
def UR (S a V k Ni : Fin 64 → Fin 64 → ℝ) : Fin 64 → Fin 64 → ℝ := mulR (addR (mulR S a) (mulR V (ltMat k a))) Ni
/-- The results of a chunk. -/
def YR (S r V k b U : Fin 64 → Fin 64 → ℝ) : Fin 64 → Fin 64 → ℝ := subR (addR (mulR S r) (mulR V (leMat k r))) (mulR U (leMat b r))
/-- The state after a chunk. -/
def SR (S U V k b : Fin 64 → Fin 64 → ℝ) (p : Fin 64 → ℝ) : Fin 64 → Fin 64 → ℝ := fun i e =>
  (S i e + mulR V (trR k) i e - mulR U (trR b) i e) * p e

/-- The left half of what the state and the values contribute. -/
theorem colL_addmul (S a r V ka kr : Fin 64 → Fin 64 → ℝ) :
    colL (addR (mulR S (sideR a r)) (mulR V (sideR ka kr))) = addR (mulR S a) (mulR V ka) := by
  funext i j; unfold colL addR mulR sideR; simp only [Fin.is_lt, dite_true]
/-- The right half of what the state and the values contribute. -/
theorem colR_addmul (S a r V ka kr : Fin 64 → Fin 64 → ℝ) :
    colR (addR (mulR S (sideR a r)) (mulR V (sideR ka kr))) = addR (mulR S r) (mulR V kr) := by
  have h : ∀ j : Fin 64, ¬(64 + j.val < 64) := by intro j; omega
  have h3 : ∀ (j : Fin 64) h, (⟨64 + j.val - 64, h⟩ : Fin 64) = j := by intro j h; apply Fin.ext; show 64 + j.val - 64 = j.val; omega
  funext i j; unfold colR addR mulR sideR; simp only [h, h3, dite_false]

section
variable (P A B R K V : Fin 64 → Fin 128 → ℝ) (S : Fin 64 → Fin 64 → ℝ)

/-- The two triangular matrices side by side, on reals. -/
theorem M_cv : M (cv (φ := .f32) A) (cv (φ := .f32) B) (cv (φ := .f32) R) (cv (φ := .f32) K) = cv (φ := .f32) (MR A B) := by
  unfold M; rw [G0_cv, G1_cv, Gb_cv, Gb_cv, lf_cv, lf_cv, colL_side, colL_side, side_cv]; rfl

/-- What the state and the values contribute to the first chunk, on reals. -/
theorem XY0_cv : XY0 (cv (φ := .f32) A) (cv (φ := .f32) B) (cv (φ := .f32) R) (cv (φ := .f32) K) (cv (φ := .bf16) V) (cv (φ := .f32) S)
    = cv (φ := .f32) (addR (mulR S (sideR (colL A) (colL R))) (mulR (colL V) (sideR (ltMat (colL K) (colL A)) (leMat (colL K) (colL R))))) := by
  unfold XY0
  rw [G0_cv, Gk_cv, lf_cv]
  simp only [p0_cv, p1_cv, p2_cv, lf_cv, side_cv, colL_zero, sideR_zero]
  exact XYV_cv _ _ _ _ _
/-- The same for the second chunk. -/
theorem XY1_cv : XY1 (cv (φ := .f32) A) (cv (φ := .f32) B) (cv (φ := .f32) R) (cv (φ := .f32) K) (cv (φ := .bf16) V) (cv (φ := .f32) S)
    = cv (φ := .f32) (addR (mulR S (sideR (colR A) (colR R))) (mulR (colR V) (sideR (ltMat (colR K) (colR A)) (leMat (colR K) (colR R))))) := by
  unfold XY1
  rw [G1_cv, Gk_cv, rt_cv]
  simp only [p0_cv, p1_cv, p2_cv, rt_cv, side_cv, colR_zero, sideR_zero]
  exact XYV_cv _ _ _ _ _

/-- What the first chunk removes, on reals. -/
theorem U0_cv : U0 (cv (φ := .f32) A) (cv (φ := .f32) B) (cv (φ := .f32) R) (cv (φ := .f32) K) (cv (φ := .bf16) V) (cv (φ := .f32) S)
    = cv (φ := .f32) (UR S (colL A) (colL V) (colL K) (colL (inverseR (MR A B)))) := by
  unfold U0
  rw [XY0_cv, M_cv, inverseV_cv _ (upper_DR (MR_upper A B)), lf_cv, UV_cv, colL_addmul]; rfl
/-- What the second chunk removes, on reals. -/
theorem U1_cv : U1 (cv (φ := .f32) A) (cv (φ := .f32) B) (cv (φ := .f32) R) (cv (φ := .f32) K) (cv (φ := .bf16) V) (cv (φ := .f32) S)
    = cv (φ := .f32) (UR S (colR A) (colR V) (colR K) (colR (inverseR (MR A B)))) := by
  unfold U1
  rw [XY1_cv, M_cv, inverseV_cv _ (upper_DR (MR_upper A B)), rt_cv, UV_cv, colL_addmul]; rfl

/-- The results of the first chunk, on reals. -/
theorem Y0_cv : Y0 (cv (φ := .f32) A) (cv (φ := .f32) B) (cv (φ := .f32) R) (cv (φ := .f32) K) (cv (φ := .bf16) V) (cv (φ := .f32) S)
    = cv (φ := .f32) (YR S (colL R) (colL V) (colL K) (colL B) (UR S (colL A) (colL V) (colL K) (colL (inverseR (MR A B))))) := by
  unfold Y0
  rw [XY0_cv, U0_cv, G0_cv, Gb_cv, rt_cv, colR_side, YV_cv, colR_addmul]; rfl
/-- The results of the second chunk, on reals. -/
theorem Y1_cv : Y1 (cv (φ := .f32) A) (cv (φ := .f32) B) (cv (φ := .f32) R) (cv (φ := .f32) K) (cv (φ := .bf16) V) (cv (φ := .f32) S)
    = cv (φ := .f32) (YR S (colR R) (colR V) (colR K) (colR B) (UR S (colR A) (colR V) (colR K) (colR (inverseR (MR A B))))) := by
  unfold Y1
  rw [XY1_cv, U1_cv, G1_cv, Gb_cv, rt_cv, colR_side, YV_cv, colR_addmul]; rfl

/-- The state after the first chunk, on reals. -/
theorem S0_cv : S0 (cv (φ := .f32) P) (cv (φ := .f32) A) (cv (φ := .f32) B) (cv (φ := .f32) R) (cv (φ := .f32) K) (cv (φ := .bf16) V) (cv (φ := .f32) S)
    = cv (φ := .f32) (SR S (UR S (colL A) (colL V) (colL K) (colL (inverseR (MR A B)))) (colL V) (colL K) (colL B) fun e => P e ⟨63, by decide⟩) := by
  unfold S0
  rw [U0_cv, lf_cv, row0_cv]
  simp only [p0_cv, p1_cv, p2_cv, tr0_cv, colL_zero, trR_zero]
  exact SV_cv _ _ _ _ _ _
/-- The state after the second chunk, on reals. -/
theorem S1_cv : S1 (cv (φ := .f32) P) (cv (φ := .f32) A) (cv (φ := .f32) B) (cv (φ := .f32) R) (cv (φ := .f32) K) (cv (φ := .bf16) V) (cv (φ := .f32) S)
    = cv (φ := .f32) (SR S (UR S (colR A) (colR V) (colR K) (colR (inverseR (MR A B)))) (colR V) (colR K) (colR B) fun e => P e ⟨127, by decide⟩) := by
  unfold S1
  rw [U1_cv, rt_cv, row1_cv]
  simp only [p0_cv, p1_cv, p2_cv, tr1_cv, colR_zero, trR_zero]
  exact SV_cv _ _ _ _ _ _
end

/-- One chunk is 64 tokens of the recurrence. -/
theorem chunk {a b r k V : Fin 64 → Fin 64 → ℝ} {wl kk ic kr v rr : Fin 64 → ℕ → ℝ} {t0 : ℕ}
    (h : IsChunk a b r k V wl kk ic kr v rr t0) (S Ni : Fin 64 → Fin 64 → ℝ) (hN : mat Ni * (1 + mat (ltMat b a)) = 1) :
    SR S (UR S a V k Ni) V k b (fun e => dec wl t0 64 e) = run wl kk ic kr v S t0 64 ∧
    ∀ i (t : Fin 64), YR S r V k b (UR S a V k Ni) i t = res wl kk ic kr v rr S t0 t.val i := by
  have hU : mat (UR S a V k Ni) * (1 + mat (ltMat b a)) = mat S * mat a + mat V * mat (ltMat k a) := by
    have e : mat (UR S a V k Ni) = (mat S * mat a + mat V * mat (ltMat k a)) * mat Ni := rfl
    rw [e, Matrix.mul_assoc, hN, Matrix.mul_one]
  obtain ⟨h1, h2⟩ := h.run_res S _ hU
  refine ⟨?_, ?_⟩
  · funext i e; exact (h1 i e).symm
  · intro i t; exact (h2 i t).symm

/-- The left half of the inverse inverts the first chunk's matrix. -/
theorem inv_low (A B : Fin 64 → Fin 128 → ℝ) : mat (colL (inverseR (MR A B))) * (1 + mat (ltMat (colL B) (colL A))) = 1 := by
  have h := inverse_half (MR A B) (MR_upper A B) 0
  rw [half_zero, half_zero] at h
  have e : colL (MR A B) = ltMat (colL B) (colL A) := colL_side _ _
  rw [e] at h
  exact h
/-- The right half of the inverse inverts the second chunk's matrix. -/
theorem inv_high (A B : Fin 64 → Fin 128 → ℝ) : mat (colR (inverseR (MR A B))) * (1 + mat (ltMat (colR B) (colR A))) = 1 := by
  have h := inverse_half (MR A B) (MR_upper A B) 1
  rw [half_one, half_one] at h
  have e : colR (MR A B) = ltMat (colR B) (colR A) := colR_side _ _
  rw [e] at h
  exact h

/-- The block's data: tokens `T … T + 127` of one head. -/
structure IsBlock (w kk ic r k v : Fin 64 → Fin 128 → ℝ) (rs ks vs : Fin 1 → Fin 128 → ℝ)
    (wl kkN icN kr vN rr : Fin 64 → ℕ → ℝ) (T : ℕ) : Prop where
  hw : ∀ e t, w e t = wl e (T + t.val)
  hkk : ∀ e t, kk e t = kkN e (T + t.val)
  hic : ∀ e t, ic e t = icN e (T + t.val)
  hr : ∀ e t, r e t * rs 0 t = rr e (T + t.val)
  hk : ∀ e t, k e t * (ks 0 t * vs 0 t) = kr e (T + t.val)
  hv : ∀ e t, v e t = vN e (T + t.val)

section
variable {w kk ic r k v : Fin 64 → Fin 128 → ℝ} {rs ks vs : Fin 1 → Fin 128 → ℝ} {wl kkN icN kr vN rr : Fin 64 → ℕ → ℝ} {T : ℕ}

/-- The first chunk of a block. -/
theorem IsBlock.low (h : IsBlock w kk ic r k v rs ks vs wl kkN icN kr vN rr T) :
    IsChunk (colL (AR w kk)) (colL (BR w kk ic)) (colL (RR w r rs)) (colL (KR w k ks vs)) (colL v) wl kkN icN kr vN rr T where
  ha e t := by show kk e _ * PexR w e _ = _; rw [PexR_low h.hw, h.hkk]
  hb e t := by show kk e _ * ic e _ * PinvR w e _ = _; rw [PinvR_low h.hw, h.hkk, h.hic]
  hr e t := by show r e _ * rs 0 _ * PR w e _ = _; rw [PR_low h.hw, h.hr]
  hk e t := by show k e _ * (ks 0 _ * vs 0 _) * PinvR w e _ = _; rw [PinvR_low h.hw, h.hk]
  hV e t := by show v e _ = _; rw [h.hv]

/-- The second chunk of a block. -/
theorem IsBlock.high (h : IsBlock w kk ic r k v rs ks vs wl kkN icN kr vN rr T) :
    IsChunk (colR (AR w kk)) (colR (BR w kk ic)) (colR (RR w r rs)) (colR (KR w k ks vs)) (colR v) wl kkN icN kr vN rr (T + 64) where
  ha e t := by show kk e _ * PexR w e _ = _; rw [PexR_high h.hw, h.hkk, Nat.add_assoc]
  hb e t := by show kk e _ * ic e _ * PinvR w e _ = _; rw [PinvR_high h.hw, h.hkk, h.hic, Nat.add_assoc]
  hr e t := by show r e _ * rs 0 _ * PR w e _ = _; rw [PR_high h.hw, h.hr, Nat.add_assoc]
  hk e t := by show k e _ * (ks 0 _ * vs 0 _) * PinvR w e _ = _; rw [PinvR_high h.hw, h.hk, Nat.add_assoc]
  hV e t := by show v e _ = _; rw [h.hv, Nat.add_assoc]

variable {ra ka va : Vec Ideal S1x64x128 .fp8e4m3} {rsa ksa vsa : Vec Ideal S1x128 .f32} {wa kka ica : Vec Ideal S1x64x128 .bf16}
  {Sa : Vec Ideal S1x64x64 .f32} {S : Fin 64 → Fin 64 → ℝ}

/-- One head: its results and its next state, from loads that hold reals. -/
theorem head_run (h : IsBlock w kk ic r k v rs ks vs wl kkN icN kr vN rr T)
    (er : ∀ d t, ra (ix3 0 d t) = ((r d t : ℝ) : EReal)) (ek : ∀ d t, ka (ix3 0 d t) = ((k d t : ℝ) : EReal)) (ev : ∀ d t, va (ix3 0 d t) = ((v d t : ℝ) : EReal))
    (ers : ∀ t, rsa (ix2 0 t) = ((rs 0 t : ℝ) : EReal)) (eks : ∀ t, ksa (ix2 0 t) = ((ks 0 t : ℝ) : EReal)) (evs : ∀ t, vsa (ix2 0 t) = ((vs 0 t : ℝ) : EReal))
    (ew : ∀ d t, wa (ix3 0 d t) = ((w d t : ℝ) : EReal)) (ekk : ∀ d t, kka (ix3 0 d t) = ((kk d t : ℝ) : EReal)) (eic : ∀ d t, ica (ix3 0 d t) = ((ic d t : ℝ) : EReal))
    (eS : ∀ i e, Sa (ix3 0 i e) = ((S i e : ℝ) : EReal)) :
    (∀ d (t : Fin 128), headY ra ka va rsa ksa vsa wa kka ica Sa (ix3 0 d t) = ((res wl kkN icN kr vN rr S T t.val d : ℝ) : EReal)) ∧
    (∀ i e, headS ra ka va rsa ksa vsa wa kka ica Sa (ix3 0 i e) = ((run wl kkN icN kr vN S T 128 i e : ℝ) : EReal)) := by
  have q : ∀ {φ : FTy} (x : FVec Ideal S1x64x128 φ) (X : Fin 64 → Fin 128 → ℝ), (∀ d t, x (ix3 0 d t) = ((X d t : ℝ) : EReal)) → sq x = cv (φ := φ) X := by
    intro φ x X hx; funext i; idx_vars i; pointwise [sq, cv_ix2]; exact hx _ _
  have q1 : ∀ (x : FVec Ideal S1x128 .f32) (X : Fin 1 → Fin 128 → ℝ), (∀ t, x (ix2 0 t) = ((X 0 t : ℝ) : EReal)) → sc x = cv (φ := .f32) X := by
    intro x X hx; funext i; idx_vars i; pointwise [sc, cv_ix2]; rw [Subsingleton.elim i0 0]; exact hx _
  have qS : hS Sa = cv (φ := .f32) S := by
    funext i; idx_vars i; pointwise [hS, cv_ix2]; exact eS _ _
  have eA : hA wa kka = cv (φ := .f32) (AR w kk) := by unfold hA; rw [q wa w ew, q kka kk ekk, AV_cv]
  have eB : hB wa kka ica = cv (φ := .f32) (BR w kk ic) := by unfold hB; rw [q wa w ew, q kka kk ekk, q ica ic eic, BV_cv]
  have eR : hR ra rsa wa = cv (φ := .f32) (RR w r rs) := by unfold hR; rw [q wa w ew, q ra r er, q1 rsa rs ers, RV_cv]
  have eK : hK ka ksa vsa wa = cv (φ := .f32) (KR w k ks vs) := by unfold hK; rw [q wa w ew, q ka k ek, q1 ksa ks eks, q1 vsa vs evs, KV_cv]
  have eV : hV va = cv (φ := .bf16) v := by unfold hV; rw [q va v ev]; rfl
  have eP : PV (sq wa) = cv (φ := .f32) (PR w) := by rw [q wa w ew, PV_cv]
  obtain ⟨s0, y0⟩ := chunk h.low S _ (inv_low (AR w kk) (BR w kk ic))
  obtain ⟨s1, y1⟩ := chunk h.high (run wl kkN icN kr vN S T 64) _ (inv_high (AR w kk) (BR w kk ic))
  have eS0 : hS0 ra ka va rsa ksa vsa wa kka ica Sa = cv (φ := .f32) (run wl kkN icN kr vN S T 64) := by
    unfold hS0
    rw [eA, eB, eR, eK, eV, eP, qS, S0_cv, ← s0]
    congr 2
    funext e; exact PR_low h.hw e 63
  constructor
  · intro d t
    unfold headY
    rw [eS0, eA, eB, eR, eK, eV, qS, Y0_cv, Y1_cv, side_cv]
    pointwise [cv_ix2]
    congr 1
    unfold sideR
    split
    · rename_i ht; exact y0 d ⟨t.val, ht⟩
    · rename_i ht
      rw [y1 d ⟨t.val - 64, by omega⟩, ← res_add]
      congr 1
      show 64 + (t.val - 64) = t.val
      omega
  · intro i e
    unfold headS
    rw [eS0, eA, eB, eR, eK, eV, eP, S1_cv]
    pointwise [cv_ix2]
    congr 1
    have e1 : run wl kkN icN kr vN S T 128 = run wl kkN icN kr vN (run wl kkN icN kr vN S T 64) (T + 64) 64 := run_add _ _ _ _ _ _ _ 64 64
    rw [e1, ← s1]
    congr 2
    funext e; exact PR_high h.hw e 63
end

end Cert.KernelIdeal.Head

end
-- ==== Proof.Loads.lean ====
/- What a load of one head reads from a whole block of the kernel. -/
module

public import proofs.«01_k».proof.Proof.Head
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

/-- One head's box lies within a block of eight heads. -/
theorem inbH (h : Fin 8) : ∀ a, (![h.val, 0, 0] : Fin 3 → Nat) a + S1x64x128.size a ≤ S8x64x128.size a := by
  intro a; fin_cases a
  · show h.val + 1 ≤ 8; omega
  · show 0 + 64 ≤ 64; omega
  · show 0 + 128 ≤ 128; omega
/-- One head's row lies within a block of eight rows. -/
theorem inbR (h : Fin 8) : ∀ a, (![h.val, 0] : Fin 2 → Nat) a + S1x128.size a ≤ S8x128.size a := by
  intro a; fin_cases a
  · show h.val + 1 ≤ 8; omega
  · show 0 + 128 ≤ 128; omega
/-- One head's state lies within a block of eight states. -/
theorem inbS (h : Fin 8) : ∀ a, (![h.val, 0, 0] : Fin 3 → Nat) a + S1x64x64.size a ≤ S8x64x64.size a := by
  intro a; fin_cases a
  · show h.val + 1 ≤ 8; omega
  · show 0 + 64 ≤ 64; omega
  · show 0 + 64 ≤ 64; omega

/-- The load of head `h` from a block held in a buffer. -/
def ldH {e : EltTy} (M : Memref sig .tc .vmem S8x64x128 e) (hM : M.IsWhole) (x : Vec F S8x64x128 e) (h : Fin 8) : Vec F S1x64x128 e :=
  View.readAt (Elt F) M.view (Rect.unit (s := S8x64x128) ![h.val, 0, 0] S1x64x128.size (inbH h)).toLoadRect (hM.unread x)
/-- The load of row `h`. -/
def ldR {e : EltTy} (M : Memref sig .tc .vmem S8x128 e) (hM : M.IsWhole) (x : Vec F S8x128 e) (h : Fin 8) : Vec F S1x128 e :=
  View.readAt (Elt F) M.view (Rect.unit (s := S8x128) ![h.val, 0] S1x128.size (inbR h)).toLoadRect (hM.unread x)
/-- The load of state `h`. -/
def ldS {e : EltTy} (M : Memref sig .tc .vmem S8x64x64 e) (hM : M.IsWhole) (x : Vec F S8x64x64 e) (h : Fin 8) : Vec F S1x64x64 e :=
  View.readAt (Elt F) M.view (Rect.unit (s := S8x64x64) ![h.val, 0, 0] S1x64x64.size (inbS h)).toLoadRect (hM.unread x)

end Cert.KernelIdeal.Head

end
-- ==== Proof.Canon.lean ====
/- What eight stores, one per head, leave in a block, and what a load of one head reads. -/
module

public import proofs.«01_k».proof.Proof.Loads
public import Idealize.ShloMosaic.Lib.Pointwise.Index
public import Idealize.ShloMosaic.Lib.Pipeline.Value
public import Idealize.ShloMosaic.Lib.WholeRead

@[expose] public section

set_option maxRecDepth 16384

noncomputable section

namespace Cert.KernelIdeal.Head

open Idealize.ShloMosaic Idealize.ShloMosaic.TcCoe Idealize.SL.Sem Cert.KernelIdeal Cert.KernelIdeal.Gen

variable {F : FTy → Type} [FloatOps F] [Named F]

/-- The box of head `h` in a block of results. -/
abbrev rcH (h : Fin 8) : Rect S8x64x128 := Rect.unit (s := S8x64x128) ![h.val, 0, 0] S1x64x128.size (inbH h)
/-- The box of head `h` in a block of states. -/
abbrev rcS (h : Fin 8) : Rect S8x64x64 := Rect.unit (s := S8x64x64) ![h.val, 0, 0] S1x64x64.size (inbS h)
/-- The box of row `h` in a block of rows. -/
abbrev rcR (h : Fin 8) : Rect S8x128 := Rect.unit (s := S8x128) ![h.val, 0] S1x128.size (inbR h)
/-- The whole block of states. -/
abbrev rcW : Rect S8x64x64 := Rect.unit (s := S8x64x64) ![0, 0, 0] ![8, 64, 64] inb_S8x64x64_S8x64x64_0_0_0

/-- The entries of one head's box of a tall block. -/
theorem idxH (h : Fin 8) (d : Fin 64) (t : Fin 128) : (rcH h).toLoadRect.idx (ix3 0 d t) = ix3 h d t := by
  funext a; fin_cases a
  · apply Fin.ext; show h.val + 1 * 0 = h.val; omega
  · apply Fin.ext; show 0 + 1 * d.val = d.val; omega
  · apply Fin.ext; show 0 + 1 * t.val = t.val; omega
/-- The entries of one head's box of a state block. -/
theorem idxS (h : Fin 8) (d e : Fin 64) : (rcS h).toLoadRect.idx (ix3 0 d e) = ix3 h d e := by
  funext a; fin_cases a
  · apply Fin.ext; show h.val + 1 * 0 = h.val; omega
  · apply Fin.ext; show 0 + 1 * d.val = d.val; omega
  · apply Fin.ext; show 0 + 1 * e.val = e.val; omega
/-- The entries of one head's box of a scale block. -/
theorem idxR (h : Fin 8) (t : Fin 128) : (rcR h).toLoadRect.idx (ix2 0 t) = ix2 h t := by
  funext a; fin_cases a
  · apply Fin.ext; show h.val + 1 * 0 = h.val; omega
  · apply Fin.ext; show 0 + 1 * t.val = t.val; omega
/-- The whole box of a state block. -/
theorem idxW (i : S8x64x64.Idx) : rcW.toLoadRect.idx i = i := by
  funext a; fin_cases a <;> · apply Fin.ext; show 0 + 1 * _ = _; omega

/-- A load of one head of a tall block. -/
theorem ldH_apply {e : EltTy} (M : Memref sig .tc .vmem S8x64x128 e) (hM : M.IsWhole) (x : Vec F S8x64x128 e) (h : Fin 8) (d : Fin 64) (t : Fin 128) :
    ldH M hM x h (ix3 0 d t) = x (ix3 h d t) :=
  (hM.readAt_unread x (rcH h).toLoadRect (ix3 0 d t)).trans (congrArg x (idxH h d t))
/-- A load of one head of a scale block. -/
theorem ldR_apply {e : EltTy} (M : Memref sig .tc .vmem S8x128 e) (hM : M.IsWhole) (x : Vec F S8x128 e) (h : Fin 8) (t : Fin 128) :
    ldR M hM x h (ix2 0 t) = x (ix2 h t) :=
  (hM.readAt_unread x (rcR h).toLoadRect (ix2 0 t)).trans (congrArg x (idxR h t))
/-- A load of one head of a state block. -/
theorem ldS_apply {e : EltTy} (M : Memref sig .tc .vmem S8x64x64 e) (hM : M.IsWhole) (x : Vec F S8x64x64 e) (h : Fin 8) (d t : Fin 64) :
    ldS M hM x h (ix3 0 d t) = x (ix3 h d t) :=
  (hM.readAt_unread x (rcS h).toLoadRect (ix3 0 d t)).trans (congrArg x (idxS h d t))

/-- Eight stores of results. -/
def listY (Y : Fin 8 → Vec F S1x64x128 .bf16) : List (View.Piece (Elt F) S8x64x128 .bf16) :=
  [⟨rcH 7, Y 7⟩, ⟨rcH 6, Y 6⟩, ⟨rcH 5, Y 5⟩, ⟨rcH 4, Y 4⟩, ⟨rcH 3, Y 3⟩, ⟨rcH 2, Y 2⟩, ⟨rcH 1, Y 1⟩, ⟨rcH 0, Y 0⟩]
/-- Eight stores of states, after the stores `L`. -/
def listS (S : Fin 8 → Vec F S1x64x64 .f32) (L : List (View.Piece (Elt F) S8x64x64 .f32)) : List (View.Piece (Elt F) S8x64x64 .f32) :=
  ⟨rcS 7, S 7⟩ :: ⟨rcS 6, S 6⟩ :: ⟨rcS 5, S 5⟩ :: ⟨rcS 4, S 4⟩ :: ⟨rcS 3, S 3⟩ :: ⟨rcS 2, S 2⟩ :: ⟨rcS 1, S 1⟩ :: ⟨rcS 0, S 0⟩ :: L

/-- An index of one head's box names a channel and a token. -/
theorem idx1 {h : Fin 8} (x : (rcH h).shape.Idx) : ∃ (d : Fin 64) (t : Fin 128), x = ix3 (0 : Fin 1) d t :=
  ⟨x 1, x 2, by funext a; fin_cases a; exact Subsingleton.elim (α := Fin 1) _ _; rfl; rfl⟩
/-- An index of one head's state names a row and a column. -/
theorem idx1S {h : Fin 8} (x : (rcS h).shape.Idx) : ∃ (d e : Fin 64), x = ix3 (0 : Fin 1) d e :=
  ⟨x 1, x 2, by funext a; fin_cases a; exact Subsingleton.elim (α := Fin 1) _ _; rfl; rfl⟩

/-- Off a head's box, an earlier store shows. -/
theorem canon_cons_ne (h k : Fin 8) (hk : k ≠ h) (w : Vec F S1x64x64 .f32) (L : List (View.Piece (Elt F) S8x64x64 .f32)) (d e : Fin 64) :
    View.canon ((⟨rcS k, w⟩ : View.Piece (Elt F) S8x64x64 .f32) :: L) (ix3 h d e) = View.canon L (ix3 h d e) := by
  refine View.canon_cons_of_not_mem _ _ fun hm => ?_
  obtain ⟨x, hx⟩ := (rcS k).exists_idx_of_mem hm
  obtain ⟨d', e', rfl⟩ := idx1S x
  have h1 : (rcS k).idx (ix3 0 d' e') = ix3 k d' e' := idxS k d' e'
  rw [h1] at hx
  exact hk (congrFun hx 0)
/-- On a head's box, its last store shows. -/
theorem canon_cons_eq (h : Fin 8) (w : Vec F S1x64x64 .f32) (L : List (View.Piece (Elt F) S8x64x64 .f32)) (d e : Fin 64) :
    View.canon ((⟨rcS h, w⟩ : View.Piece (Elt F) S8x64x64 .f32) :: L) (ix3 h d e) = w (ix3 0 d e) := by
  have h1 := View.canon_cons_emb (Val := Elt F) (rcS h) w L (ix3 0 d e)
  have h2 : (rcS h).emb (ix3 0 d e) = ix3 h d e := idxS h d e
  rw [h2] at h1
  exact h1
/-- A store of another head leaves an entry. -/
theorem canonY_cons_ne (h k : Fin 8) (hk : k ≠ h) (w : Vec F S1x64x128 .bf16) (L : List (View.Piece (Elt F) S8x64x128 .bf16)) (d : Fin 64) (t : Fin 128) :
    View.canon ((⟨rcH k, w⟩ : View.Piece (Elt F) S8x64x128 .bf16) :: L) (ix3 h d t) = View.canon L (ix3 h d t) := by
  refine View.canon_cons_of_not_mem _ _ fun hm => ?_
  obtain ⟨x, hx⟩ := (rcH k).exists_idx_of_mem hm
  obtain ⟨d', e', rfl⟩ := idx1 x
  have h1 : (rcH k).idx (ix3 0 d' e') = ix3 k d' e' := idxH k d' e'
  rw [h1] at hx
  exact hk (congrFun hx 0)
/-- A store of the head gives the entry. -/
theorem canonY_cons_eq (h : Fin 8) (w : Vec F S1x64x128 .bf16) (L : List (View.Piece (Elt F) S8x64x128 .bf16)) (d : Fin 64) (t : Fin 128) :
    View.canon ((⟨rcH h, w⟩ : View.Piece (Elt F) S8x64x128 .bf16) :: L) (ix3 h d t) = w (ix3 0 d t) := by
  have h1 := View.canon_cons_emb (Val := Elt F) (rcH h) w L (ix3 0 d t)
  have h2 : (rcH h).emb (ix3 0 d t) = ix3 h d t := idxH h d t
  rw [h2] at h1
  exact h1

/-- An entry lies in its head's state box. -/
theorem memS (h : Fin 8) (d e : Fin 64) : (ix3 h d e : S8x64x64.Idx) ∈ (rcS h).set := by
  have := (rcS h).idx_mem (ix3 0 d e); rwa [show (rcS h).idx (ix3 0 d e) = ix3 h d e from idxS h d e] at this
/-- An entry lies in its head's box. -/
theorem memH (h : Fin 8) (d : Fin 64) (t : Fin 128) : (ix3 h d t : S8x64x128.Idx) ∈ (rcH h).set := by
  have := (rcH h).idx_mem (ix3 0 d t); rwa [show (rcH h).idx (ix3 0 d t) = ix3 h d t from idxH h d t] at this

/-- What eight stores leave in a result block. -/
theorem canon_listY (Y : Fin 8 → Vec F S1x64x128 .bf16) (h : Fin 8) (d : Fin 64) (t : Fin 128) :
    View.canon (listY Y) (ix3 h d t) = Y h (ix3 0 d t) := by
  match h with
  | 0 => rw [listY, canonY_cons_ne 0 7 (by decide), canonY_cons_ne 0 6 (by decide), canonY_cons_ne 0 5 (by decide), canonY_cons_ne 0 4 (by decide), canonY_cons_ne 0 3 (by decide), canonY_cons_ne 0 2 (by decide), canonY_cons_ne 0 1 (by decide), canonY_cons_eq 0]
  | 1 => rw [listY, canonY_cons_ne 1 7 (by decide), canonY_cons_ne 1 6 (by decide), canonY_cons_ne 1 5 (by decide), canonY_cons_ne 1 4 (by decide), canonY_cons_ne 1 3 (by decide), canonY_cons_ne 1 2 (by decide), canonY_cons_eq 1]
  | 2 => rw [listY, canonY_cons_ne 2 7 (by decide), canonY_cons_ne 2 6 (by decide), canonY_cons_ne 2 5 (by decide), canonY_cons_ne 2 4 (by decide), canonY_cons_ne 2 3 (by decide), canonY_cons_eq 2]
  | 3 => rw [listY, canonY_cons_ne 3 7 (by decide), canonY_cons_ne 3 6 (by decide), canonY_cons_ne 3 5 (by decide), canonY_cons_ne 3 4 (by decide), canonY_cons_eq 3]
  | 4 => rw [listY, canonY_cons_ne 4 7 (by decide), canonY_cons_ne 4 6 (by decide), canonY_cons_ne 4 5 (by decide), canonY_cons_eq 4]
  | 5 => rw [listY, canonY_cons_ne 5 7 (by decide), canonY_cons_ne 5 6 (by decide), canonY_cons_eq 5]
  | 6 => rw [listY, canonY_cons_ne 6 7 (by decide), canonY_cons_eq 6]
  | 7 => rw [listY, canonY_cons_eq 7]
/-- What eight stores leave in a state block. -/
theorem canon_listS (S : Fin 8 → Vec F S1x64x64 .f32) (L : List (View.Piece (Elt F) S8x64x64 .f32)) (h : Fin 8) (d e : Fin 64) :
    View.canon (listS S L) (ix3 h d e) = S h (ix3 0 d e) := by
  match h with
  | 0 => rw [listS, canon_cons_ne 0 7 (by decide), canon_cons_ne 0 6 (by decide), canon_cons_ne 0 5 (by decide), canon_cons_ne 0 4 (by decide), canon_cons_ne 0 3 (by decide), canon_cons_ne 0 2 (by decide), canon_cons_ne 0 1 (by decide), canon_cons_eq 0]
  | 1 => rw [listS, canon_cons_ne 1 7 (by decide), canon_cons_ne 1 6 (by decide), canon_cons_ne 1 5 (by decide), canon_cons_ne 1 4 (by decide), canon_cons_ne 1 3 (by decide), canon_cons_ne 1 2 (by decide), canon_cons_eq 1]
  | 2 => rw [listS, canon_cons_ne 2 7 (by decide), canon_cons_ne 2 6 (by decide), canon_cons_ne 2 5 (by decide), canon_cons_ne 2 4 (by decide), canon_cons_ne 2 3 (by decide), canon_cons_eq 2]
  | 3 => rw [listS, canon_cons_ne 3 7 (by decide), canon_cons_ne 3 6 (by decide), canon_cons_ne 3 5 (by decide), canon_cons_ne 3 4 (by decide), canon_cons_eq 3]
  | 4 => rw [listS, canon_cons_ne 4 7 (by decide), canon_cons_ne 4 6 (by decide), canon_cons_ne 4 5 (by decide), canon_cons_eq 4]
  | 5 => rw [listS, canon_cons_ne 5 7 (by decide), canon_cons_ne 5 6 (by decide), canon_cons_eq 5]
  | 6 => rw [listS, canon_cons_ne 6 7 (by decide), canon_cons_eq 6]
  | 7 => rw [listS, canon_cons_eq 7]

/-- Eight stores cover a result block. -/
theorem mem_listY (Y : Fin 8 → Vec F S1x64x128 .bf16) (h : Fin 8) (d : Fin 64) (t : Fin 128) :
    ∃ p ∈ listY Y, (ix3 h d t : S8x64x128.Idx) ∈ p.1.set := by
  refine ⟨⟨rcH h, Y h⟩, ?_, memH h d t⟩
  unfold listY; fin_cases h <;> simp
/-- Eight stores cover a state block. -/
theorem mem_listS (S : Fin 8 → Vec F S1x64x64 .f32) (L : List (View.Piece (Elt F) S8x64x64 .f32)) (h : Fin 8) (d e : Fin 64) :
    ∃ p ∈ listS S L, (ix3 h d e : S8x64x64.Idx) ∈ p.1.set := by
  refine ⟨⟨rcS h, S h⟩, ?_, memS h d e⟩
  unfold listS; fin_cases h <;> simp

/-! ### The states after a whole store, head by head -/

/-- The whole block of states, then the stores of the first `n` heads, each from the state loaded after those before it. -/
def states (v : View sig .tc .vmem S8x64x64 .f32) (f : Fin 8 → Vec F S1x64x64 .f32 → Vec F S1x64x64 .f32) (w : Vec F S8x64x64 .f32) :
    (n : Nat) → n ≤ 8 → List (View.Piece (Elt F) S8x64x64 .f32)
  | 0, _ => [⟨rcW, w⟩]
  | n + 1, h => ⟨rcS ⟨n, h⟩, f ⟨n, h⟩ (v.readCov (states v f w n (by omega)) (rcS ⟨n, h⟩).toLoadRect)⟩ :: states v f w n (by omega)

section
variable (v : View sig .tc .vmem S8x64x64 .f32) (f : Fin 8 → Vec F S1x64x64 .f32 → Vec F S1x64x64 .f32) (w : Vec F S8x64x64 .f32)

/-- The stores so far cover the state block. -/
theorem mem_states (n : Nat) (hn : n ≤ 8) (y : S8x64x64.Idx) : ∃ p ∈ states v f w n hn, y ∈ p.1.set := by
  induction n with
  | zero => exact ⟨⟨rcW, w⟩, List.mem_singleton.2 rfl, by have := rcW.idx_mem y; rwa [show rcW.idx y = y from idxW y] at this⟩
  | succ n ih => obtain ⟨p, hp, hy⟩ := ih (by omega); exact ⟨p, List.mem_cons_of_mem _ hp, hy⟩

/-- A head not yet stored still holds the whole store. -/
theorem canon_states_ge (n : Nat) (hn : n ≤ 8) (h : Fin 8) (hh : n ≤ h.val) (d e : Fin 64) :
    View.canon (states v f w n hn) (ix3 h d e) = w (ix3 h d e) := by
  induction n with
  | zero =>
    have h1 := View.canon_cons_emb (Val := Elt F) rcW w [] (ix3 h d e)
    rw [show rcW.emb (ix3 h d e) = ix3 h d e from idxW _] at h1
    exact h1
  | succ n ih =>
    refine (canon_cons_ne h ⟨n, hn⟩ (fun e => ?_) _ _ d e).trans (ih (by omega) (by omega))
    have := congrArg Fin.val e; simp only at this; omega

/-- A load of a head not yet stored reads what was there before. -/
theorem readCov_states (n : Nat) (hn : n < 8) (d e : Fin 64) :
    v.readCov (states v f w n hn.le) (rcS ⟨n, hn⟩).toLoadRect (ix3 0 d e) = w (ix3 ⟨n, hn⟩ d e) := by
  rw [View.readCov_eq_canon v _ _ fun j => mem_states v f w n hn.le _]
  show View.canon _ ((rcS ⟨n, hn⟩).toLoadRect.idx (ix3 0 d e)) = _
  rw [idxS, canon_states_ge v f w n hn.le ⟨n, hn⟩ le_rfl]

/-- A head stored holds its new state. -/
theorem canon_states_lt (n : Nat) (hn : n ≤ 8) (h : Fin 8) (hh : h.val < n) (d e : Fin 64) :
    View.canon (states v f w n hn) (ix3 h d e)
      = f h (v.readCov (states v f w h.val h.isLt.le) (rcS h).toLoadRect) (ix3 0 d e) := by
  induction n with
  | zero => omega
  | succ n ih =>
    by_cases e1 : h.val = n
    · subst e1; exact canon_cons_eq _ _ _ d e
    · refine (canon_cons_ne h ⟨n, hn⟩ (fun e => ?_) _ _ d e).trans (ih (by omega) (by omega))
      have := congrArg Fin.val e; simp only at this; omega
end

end Cert.KernelIdeal.Head

end
-- ==== Proof.Block.lean ====
/- What a block of eight heads and 128 tokens holds, and what one head computes from it. -/
module

public import proofs.«01_k».proof.Proof.SemHead
public import proofs.«01_k».proof.Proof.Canon

@[expose] public section

set_option maxRecDepth 16384

noncomputable section

namespace Cert.KernelIdeal.Head

open Idealize.ShloMosaic Idealize.SL.Sem Cert.KernelIdeal Cert.KernelIdeal.Gen Wkv

/-- The real operands of one head, by channel and token. -/
structure Ops where
  r : Fin 64 → ℕ → ℝ
  k : Fin 64 → ℕ → ℝ
  v : Fin 64 → ℕ → ℝ
  rs : ℕ → ℝ
  ks : ℕ → ℝ
  vs : ℕ → ℝ
  w : Fin 64 → ℕ → ℝ
  kk : Fin 64 → ℕ → ℝ
  ic : Fin 64 → ℕ → ℝ

/-- The scaled key, with both scales. -/
def Ops.kr (O : Ops) : Fin 64 → ℕ → ℝ := fun e t => O.k e t * (O.ks t * O.vs t)
/-- The scaled receptance. -/
def Ops.rr (O : Ops) : Fin 64 → ℕ → ℝ := fun e t => O.r e t * O.rs t
/-- The head's recurrence from state `S` at token `T`. -/
def Ops.run (O : Ops) (S : Fin 64 → Fin 64 → ℝ) (T n : ℕ) : Fin 64 → Fin 64 → ℝ := Wkv.run O.w O.kk O.ic O.kr O.v S T n
/-- The head's result at token `T + n`. -/
def Ops.res (O : Ops) (S : Fin 64 → Fin 64 → ℝ) (T n : ℕ) (i : Fin 64) : ℝ := Wkv.res O.w O.kk O.ic O.kr O.v O.rr S T n i

/-- Nine blocks hold the operands of eight heads from token `T` on. -/
structure Reads (x0 x1 x2 : Vec Ideal S8x64x128 .fp8e4m3) (x3 x4 x5 : Vec Ideal S8x128 .f32) (x6 x7 x8 : Vec Ideal S8x64x128 .bf16)
    (O : Fin 8 → Ops) (T : ℕ) : Prop where
  r : ∀ h (d : Fin 64) (t : Fin 128), x0 (ix3 h d t) = (((O h).r d (T + t.val) : ℝ) : EReal)
  k : ∀ h (d : Fin 64) (t : Fin 128), x1 (ix3 h d t) = (((O h).k d (T + t.val) : ℝ) : EReal)
  v : ∀ h (d : Fin 64) (t : Fin 128), x2 (ix3 h d t) = (((O h).v d (T + t.val) : ℝ) : EReal)
  rs : ∀ h (t : Fin 128), x3 (ix2 h t) = (((O h).rs (T + t.val) : ℝ) : EReal)
  ks : ∀ h (t : Fin 128), x4 (ix2 h t) = (((O h).ks (T + t.val) : ℝ) : EReal)
  vs : ∀ h (t : Fin 128), x5 (ix2 h t) = (((O h).vs (T + t.val) : ℝ) : EReal)
  w : ∀ h (d : Fin 64) (t : Fin 128), x6 (ix3 h d t) = (((O h).w d (T + t.val) : ℝ) : EReal)
  kk : ∀ h (d : Fin 64) (t : Fin 128), x7 (ix3 h d t) = (((O h).kk d (T + t.val) : ℝ) : EReal)
  ic : ∀ h (d : Fin 64) (t : Fin 128), x8 (ix3 h d t) = (((O h).ic d (T + t.val) : ℝ) : EReal)

variable {x0 x1 x2 : Vec Ideal S8x64x128 .fp8e4m3} {x3 x4 x5 : Vec Ideal S8x128 .f32} {x6 x7 x8 : Vec Ideal S8x64x128 .bf16}
  {O : Fin 8 → Ops} {T : ℕ}
  {ra ka va : Vec Ideal S1x64x128 .fp8e4m3} {rsa ksa vsa : Vec Ideal S1x128 .f32} {wa kka ica : Vec Ideal S1x64x128 .bf16}
  {Sa : Vec Ideal S1x64x64 .f32} {S : Fin 64 → Fin 64 → ℝ}

/-- One head of a block. -/
theorem Reads.head (R : Reads x0 x1 x2 x3 x4 x5 x6 x7 x8 O T) (h : Fin 8)
    (er : ∀ (d : Fin 64) (t : Fin 128), ra (ix3 0 d t) = x0 (ix3 h d t)) (ek : ∀ (d : Fin 64) (t : Fin 128), ka (ix3 0 d t) = x1 (ix3 h d t))
    (ev : ∀ (d : Fin 64) (t : Fin 128), va (ix3 0 d t) = x2 (ix3 h d t))
    (ers : ∀ t : Fin 128, rsa (ix2 0 t) = x3 (ix2 h t)) (eks : ∀ t : Fin 128, ksa (ix2 0 t) = x4 (ix2 h t)) (evs : ∀ t : Fin 128, vsa (ix2 0 t) = x5 (ix2 h t))
    (ew : ∀ (d : Fin 64) (t : Fin 128), wa (ix3 0 d t) = x6 (ix3 h d t)) (ekk : ∀ (d : Fin 64) (t : Fin 128), kka (ix3 0 d t) = x7 (ix3 h d t))
    (eic : ∀ (d : Fin 64) (t : Fin 128), ica (ix3 0 d t) = x8 (ix3 h d t))
    (eS : ∀ i e : Fin 64, Sa (ix3 0 i e) = ((S i e : ℝ) : EReal)) :
    (∀ (d : Fin 64) (t : Fin 128), headY ra ka va rsa ksa vsa wa kka ica Sa (ix3 0 d t) = (((O h).res S T t.val d : ℝ) : EReal)) ∧
    (∀ i e : Fin 64, headS ra ka va rsa ksa vsa wa kka ica Sa (ix3 0 i e) = (((O h).run S T 128 i e : ℝ) : EReal)) :=
  head_run (w := fun e t => (O h).w e (T + t.val)) (kk := fun e t => (O h).kk e (T + t.val)) (ic := fun e t => (O h).ic e (T + t.val))
    (r := fun e t => (O h).r e (T + t.val)) (k := fun e t => (O h).k e (T + t.val)) (v := fun e t => (O h).v e (T + t.val))
    (rs := fun _ t => (O h).rs (T + t.val)) (ks := fun _ t => (O h).ks (T + t.val)) (vs := fun _ t => (O h).vs (T + t.val))
    ⟨fun _ _ => rfl, fun _ _ => rfl, fun _ _ => rfl, fun _ _ => rfl, fun _ _ => rfl, fun _ _ => rfl⟩
    (fun d t => (er d t).trans (R.r h d t)) (fun d t => (ek d t).trans (R.k h d t)) (fun d t => (ev d t).trans (R.v h d t))
    (fun t => (ers t).trans (R.rs h t)) (fun t => (eks t).trans (R.ks h t)) (fun t => (evs t).trans (R.vs h t))
    (fun d t => (ew d t).trans (R.w h d t)) (fun d t => (ekk d t).trans (R.kk h d t)) (fun d t => (eic d t).trans (R.ic h d t)) eS

end Cert.KernelIdeal.Head

end
-- ==== Proof.PiecesAY.lean ====
/- The stores of one grid point into the result block, case A. -/
module

public import proofs.«01_k».proof.Proof.Canon
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

set_option maxHeartbeats 0 in
/-- Case A: the stores into the result are one per head, each holding what the head computes. -/
theorem piecesY_A (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : cond0_0 i) (hc1 : ¬cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 =
     listY (fun h => headY (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) (arg14.view.readCov (states arg14.view (fun h s => headS (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) s) (kernelRun0_A.sl.v15330 c arg11 harg11 x9) h.val h.isLt.le) (rcS h).toLoadRect)) := by sl_kernel_rfl

end Cert.KernelIdeal.Head

end
-- ==== Proof.PiecesAS.lean ====
/- The stores of one grid point into the state block, case A. -/
module

public import proofs.«01_k».proof.Proof.Canon
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

set_option maxHeartbeats 0 in
/-- Case A: the stores into the state are one per head, each holding what the head computes. -/
theorem piecesS_A (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : cond0_0 i) (hc1 : ¬cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1 =
     states arg14.view (fun h s => headS (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) s) (kernelRun0_A.sl.v15330 c arg11 harg11 x9) 8 le_rfl := by sl_kernel_rfl

end Cert.KernelIdeal.Head

end
-- ==== Proof.PiecesBY.lean ====
/- The stores of one grid point into the result block, case B. -/
module

public import proofs.«01_k».proof.Proof.Canon
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

set_option maxHeartbeats 0 in
/-- Case B: the stores into the result are one per head, each holding what the head computes. -/
theorem piecesY_B (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : ¬cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) (xs0 : Vec F S8x64x64 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).1 =
     listY (fun h => headY (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) (ldS arg14 harg14 xs0 h)) := by sl_kernel_rfl

end Cert.KernelIdeal.Head

end
-- ==== Proof.PiecesBS.lean ====
/- The stores of one grid point into the state block, case B. -/
module

public import proofs.«01_k».proof.Proof.Canon
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

set_option maxHeartbeats 0 in
/-- Case B: the stores into the state are one per head, each holding what the head computes. -/
theorem piecesS_B (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : ¬cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) (xs0 : Vec F S8x64x64 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1 =
     listS (fun h => headS (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) (ldS arg14 harg14 xs0 h)) [] := by sl_kernel_rfl

end Cert.KernelIdeal.Head

end
-- ==== Proof.PiecesCY.lean ====
/- The stores of one grid point into the result block, case C. -/
module

public import proofs.«01_k».proof.Proof.Canon
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

set_option maxHeartbeats 0 in
/-- Case C: the stores into the result are one per head, each holding what the head computes. -/
theorem piecesY_C (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) (xs0 : Vec F S8x64x64 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).1 =
     listY (fun h => headY (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) (ldS arg14 harg14 xs0 h)) := by sl_kernel_rfl

end Cert.KernelIdeal.Head

end
-- ==== Proof.PiecesCS.lean ====
/- The stores of one grid point into the state block, case C. -/
module

public import proofs.«01_k».proof.Proof.Canon
public import proofs.«01_k».proof.Proof.Gen.KernelIdeal.Frame

@[expose] public section

set_option maxRecDepth 16384

noncomputable section

namespace Cert.KernelIdeal.Head

open Idealize.ShloMosaic Idealize.ShloMosaic.TcCoe Idealize.ShloMosaic.Tactic Idealize.SL.Sem Cert.KernelIdeal Cert.KernelIdeal.Gen

variable {F : FTy → Type} [FloatOps F] [Named F]

set_option maxHeartbeats 0 in
/-- Case C: the stores into the state are one per head, each holding what the head computes. -/
theorem piecesS_C (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) (xs0 : Vec F S8x64x64 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1 =
     listS (fun h => headS (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) (ldS arg14 harg14 xs0 h)) [] := by sl_kernel_rfl

set_option maxHeartbeats 0 in
/-- The last block copies the states whole. -/
theorem piecesF_C (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : cond0_1 i)
    (x0 : Vec F S8x64x128 .fp8e4m3) (x1 : Vec F S8x64x128 .fp8e4m3) (x2 : Vec F S8x64x128 .fp8e4m3) (x3 : Vec F S8x128 .f32) (x4 : Vec F S8x128 .f32) (x5 : Vec F S8x128 .f32) (x6 : Vec F S8x64x128 .bf16) (x7 : Vec F S8x64x128 .bf16) (x8 : Vec F S8x64x128 .bf16) (x9 : Vec F S8x64x64 .f32) (xs0 : Vec F S8x64x64 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.1 =
     [⟨rcW, arg14.view.readCov (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1 rcW.toLoadRect⟩] := by sl_kernel_rfl

end Cert.KernelIdeal.Head

end
-- ==== Proof.Cases.lean ====
/- What each kind of grid point leaves in its blocks: the recurrence, head by head. -/
module

public import proofs.«01_k».proof.Proof.Block
public import proofs.«01_k».proof.Proof.PiecesAY
public import proofs.«01_k».proof.Proof.PiecesAS
public import proofs.«01_k».proof.Proof.PiecesBY
public import proofs.«01_k».proof.Proof.PiecesBS
public import proofs.«01_k».proof.Proof.PiecesCY
public import proofs.«01_k».proof.Proof.PiecesCS

@[expose] public section

set_option maxRecDepth 16384

noncomputable section

namespace Cert.KernelIdeal.Head

open Idealize.ShloMosaic Idealize.ShloMosaic.TcCoe Idealize.SL.Sem Cert.KernelIdeal Cert.KernelIdeal.Gen Wkv

variable {O : Fin 8 → Ops} {T : ℕ} {S : Fin 8 → Fin 64 → Fin 64 → ℝ}

/-- The whole state copied in at a run's first point. -/
theorem copied (c : Dev nD) (arg11 : Memref sig .tc .vmem S8x64x64 .f32) (harg11 : arg11.IsWhole) (x9 : Vec Ideal S8x64x64 .f32) (h : Fin 8) (d e : Fin 64) :
    kernelRun0_A.sl.v15330 c arg11 harg11 x9 (ix3 h d e) = x9 (ix3 h d e) := by
  have e1 : kernelRun0_A.sl.v15330 c arg11 harg11 x9
      = shapeCast S8x64x64 (shapeCast S8x64x64 (View.readAt (Elt Ideal) arg11.view rcW.toLoadRect (harg11.unread x9)) shapeCasts_S8x64x64_S8x64x64) shapeCasts_S8x64x64_S8x64x64 := by sl_kernel_rfl
  rw [e1]
  pointwise []
  exact (harg11.readAt_unread x9 rcW.toLoadRect (ix3 h d e)).trans (congrArg x9 (idxW _))

/-- The results at a first chunk. -/
theorem out10_A (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : cond0_0 i) (hc1 : ¬cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (R : Reads x0 x1 x2 x3 x4 x5 x6 x7 x8 O T) (eS : ∀ h (i e : Fin 64), x9 (ix3 h i e) = ((S h i e : ℝ) : EReal)) (h : Fin 8) (d : Fin 64) (t : Fin 128) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 (ix3 h d t) = (((O h).res (S h) T t.val d : ℝ) : EReal) := by
  unfold out0_A_10
  rw [piecesY_A]
  exact (View.read_writes_apply_eq_canon _ _ _ _ (mem_listY _ h d t)).trans ((canon_listY _ h d t).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (readCov_states _ _ _ h.val h.isLt i e).trans ((copied _ _ _ _ _ i e).trans (eS h i e)))).1 d t))

/-- The state after a first chunk. -/
theorem sout_A (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : cond0_0 i) (hc1 : ¬cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (R : Reads x0 x1 x2 x3 x4 x5 x6 x7 x8 O T) (eS : ∀ h (i e : Fin 64), x9 (ix3 h i e) = ((S h i e : ℝ) : EReal)) (h : Fin 8) (i' e : Fin 64) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 (ix3 h i' e) = (((O h).run (S h) T 128 i' e : ℝ) : EReal) := by
  unfold sout0_A_0
  rw [piecesS_A]
  exact (View.read_writes_apply_eq_canon _ _ _ _ (mem_states _ _ _ 8 le_rfl _)).trans ((canon_states_lt _ _ _ 8 le_rfl h h.isLt i' e).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (readCov_states _ _ _ h.val h.isLt i e).trans ((copied _ _ _ _ _ i e).trans (eS h i e)))).2 i' e))

/-- The results at a middle chunk. -/
theorem out10_B (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : ¬cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (xs0 : Vec Ideal S8x64x64 .f32) (R : Reads x0 x1 x2 x3 x4 x5 x6 x7 x8 O T) (eS : ∀ h (i e : Fin 64), xs0 (ix3 h i e) = ((S h i e : ℝ) : EReal)) (h : Fin 8) (d : Fin 64) (t : Fin 128) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix3 h d t) = (((O h).res (S h) T t.val d : ℝ) : EReal) := by
  unfold out0_B_10
  rw [piecesY_B]
  exact (View.read_writes_apply_eq_canon _ _ _ _ (mem_listY _ h d t)).trans ((canon_listY _ h d t).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (ldS_apply _ _ _ _ i e).trans (eS h i e))).1 d t))

/-- The state after a middle chunk. -/
theorem sout_B (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : ¬cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (xs0 : Vec Ideal S8x64x64 .f32) (R : Reads x0 x1 x2 x3 x4 x5 x6 x7 x8 O T) (eS : ∀ h (i e : Fin 64), xs0 (ix3 h i e) = ((S h i e : ℝ) : EReal)) (h : Fin 8) (i' e : Fin 64) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix3 h i' e) = (((O h).run (S h) T 128 i' e : ℝ) : EReal) := by
  unfold sout0_B_0
  rw [piecesS_B]
  exact (View.read_writes_apply_eq_canon _ _ _ _ (mem_listS _ _ h i' e)).trans ((canon_listS _ _ h i' e).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (ldS_apply _ _ _ _ i e).trans (eS h i e))).2 i' e))

/-- The results at a last chunk. -/
theorem out10_C (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (xs0 : Vec Ideal S8x64x64 .f32) (R : Reads x0 x1 x2 x3 x4 x5 x6 x7 x8 O T) (eS : ∀ h (i e : Fin 64), xs0 (ix3 h i e) = ((S h i e : ℝ) : EReal)) (h : Fin 8) (d : Fin 64) (t : Fin 128) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix3 h d t) = (((O h).res (S h) T t.val d : ℝ) : EReal) := by
  unfold out0_C_10
  rw [piecesY_C]
  exact (View.read_writes_apply_eq_canon _ _ _ _ (mem_listY _ h d t)).trans ((canon_listY _ h d t).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (ldS_apply _ _ _ _ i e).trans (eS h i e))).1 d t))

/-- The state after a last chunk. -/
theorem sout_C (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (xs0 : Vec Ideal S8x64x64 .f32) (R : Reads x0 x1 x2 x3 x4 x5 x6 x7 x8 O T) (eS : ∀ h (i e : Fin 64), xs0 (ix3 h i e) = ((S h i e : ℝ) : EReal)) (h : Fin 8) (i' e : Fin 64) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix3 h i' e) = (((O h).run (S h) T 128 i' e : ℝ) : EReal) := by
  unfold sout0_C_0
  rw [piecesS_C]
  exact (View.read_writes_apply_eq_canon _ _ _ _ (mem_listS _ _ h i' e)).trans ((canon_listS _ _ h i' e).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (ldS_apply _ _ _ _ i e).trans (eS h i e))).2 i' e))

/-- The final state written at a last chunk. -/
theorem out11_C (c : Dev nD) (i : grid0.Coords) (arg2 : Memref sig .tc .vmem S8x64x128 .fp8e4m3) (harg2 : arg2.IsWhole) (arg3 : Memref sig .tc .vmem S8x64x128 .fp8e4m3) (harg3 : arg3.IsWhole) (arg4 : Memref sig .tc .vmem S8x64x128 .fp8e4m3) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x64x128 .bf16) (harg8 : arg8.IsWhole) (arg9 : Memref sig .tc .vmem S8x64x128 .bf16) (harg9 : arg9.IsWhole) (arg10 : Memref sig .tc .vmem S8x64x128 .bf16) (harg10 : arg10.IsWhole) (arg11 : Memref sig .tc .vmem S8x64x64 .f32) (harg11 : arg11.IsWhole) (arg12 : Memref sig .tc .vmem S8x64x128 .bf16) (harg12 : arg12.IsWhole) (arg13 : Memref sig .tc .vmem S8x64x64 .f32) (harg13 : arg13.IsWhole) (arg14 : Memref sig .tc .vmem S8x64x64 .f32) (harg14 : arg14.IsWhole) (hc0 : ¬cond0_0 i) (hc1 : cond0_1 i)
    (x0 : Vec Ideal S8x64x128 .fp8e4m3) (x1 : Vec Ideal S8x64x128 .fp8e4m3) (x2 : Vec Ideal S8x64x128 .fp8e4m3) (x3 : Vec Ideal S8x128 .f32) (x4 : Vec Ideal S8x128 .f32) (x5 : Vec Ideal S8x128 .f32) (x6 : Vec Ideal S8x64x128 .bf16) (x7 : Vec Ideal S8x64x128 .bf16) (x8 : Vec Ideal S8x64x128 .bf16) (x9 : Vec Ideal S8x64x64 .f32) (xs0 : Vec Ideal S8x64x64 .f32) (R : Reads x0 x1 x2 x3 x4 x5 x6 x7 x8 O T) (eS : ∀ h (i e : Fin 64), xs0 (ix3 h i e) = ((S h i e : ℝ) : EReal)) (h : Fin 8) (i' e : Fin 64) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 (ix3 h i' e) = (((O h).run (S h) T 128 i' e : ℝ) : EReal) := by
  have e1 : ∀ (w : Vec Ideal S8x64x64 .f32) (y : S8x64x64.Idx), View.canon [(⟨rcW, w⟩ : View.Piece (Elt Ideal) S8x64x64 .f32)] y = w y := fun w y => by
    have h1 := View.canon_cons_emb (Val := Elt Ideal) rcW w [] y
    rw [show rcW.emb y = y from idxW _] at h1
    exact h1
  have e2 : ∀ (w : Vec Ideal S8x64x64 .f32) (y : S8x64x64.Idx), ∃ p ∈ [(⟨rcW, w⟩ : View.Piece (Elt Ideal) S8x64x64 .f32)], y ∈ p.1.set := fun w y =>
    ⟨⟨rcW, w⟩, List.mem_singleton.2 rfl, by have := rcW.idx_mem y; rwa [show rcW.idx y = y from idxW y] at this⟩
  unfold out0_C_11
  rw [piecesF_C]
  refine (View.read_writes_apply_eq_canon _ _ _ _ (e2 _ _)).trans ((e1 _ _).trans ?_)
  rw [piecesS_C, View.readCov_eq_canon _ _ _ fun j => by
    rw [idxW]
    have := mem_listS (F := Ideal) (fun h => headS (ldH arg2 harg2 x0 h) (ldH arg3 harg3 x1 h) (ldH arg4 harg4 x2 h) (ldR arg5 harg5 x3 h) (ldR arg6 harg6 x4 h) (ldR arg7 harg7 x5 h) (ldH arg8 harg8 x6 h) (ldH arg9 harg9 x7 h) (ldH arg10 harg10 x8 h) (ldS arg14 harg14 xs0 h)) [] (j 0) (j 1) (j 2)
    have ej : (ix3 (j 0) (j 1) (j 2) : S8x64x64.Idx) = j := by funext a; fin_cases a <;> rfl
    rwa [ej] at this]
  refine (congrArg (View.canon _) (idxW _)).trans ((canon_listS _ _ h i' e).trans
    ((R.head h (fun d t => ldH_apply _ _ _ _ d t) (fun d t => ldH_apply _ _ _ _ d t) (fun d t => ldH_apply _ _ _ _ d t) (fun t => ldR_apply _ _ _ _ t) (fun t => ldR_apply _ _ _ _ t) (fun t => ldR_apply _ _ _ _ t) (fun d t => ldH_apply _ _ _ _ d t) (fun d t => ldH_apply _ _ _ _ d t) (fun d t => ldH_apply _ _ _ _ d t) (fun i e => (ldS_apply _ _ _ _ i e).trans (eS h i e))).2 i' e))

end Cert.KernelIdeal.Head

end
-- ==== Proof.Fold.lean ====
/- The blocks of a run, one after another: what the carried fold holds at each grid point. -/
module

public import proofs.«01_k».proof.Proof.Cases
public import proofs.«01_k».proof.Proof.Gen.KernelIdeal.Value

@[expose] public section

set_option maxRecDepth 16384

noncomputable section

namespace Cert.KernelIdeal.Head

open Idealize.ShloMosaic Idealize.ShloMosaic.TcCoe Idealize.SL.Sem Cert.KernelIdeal Cert.KernelIdeal.Gen Cert.KernelIdeal.Value Wkv

/-- The recurrence in two stretches. -/
theorem Ops.run_add (O : Ops) (S : Fin 64 → Fin 64 → ℝ) (m n : ℕ) : O.run S 0 (m + n) = O.run (O.run S 0 m) m n := by
  have := Wkv.run_add O.w O.kk O.ic O.kr O.v S 0 m n
  rw [Nat.zero_add] at this; exact this
/-- Results of the second stretch. -/
theorem Ops.res_add (O : Ops) (S : Fin 64 → Fin 64 → ℝ) (m n : ℕ) : O.res S 0 (m + n) = O.res (O.run S 0 m) m n := by
  have := Wkv.res_add O.w O.kk O.ic O.kr O.v O.rr S 0 m n
  rw [Nat.zero_add] at this; exact this

variable (m : (ℓ : Loc nD τ sig) → Buf (Elt Ideal) ℓ) (c : Dev nD)

/-- Every point's blocks hold the operands of its eight heads and 128 tokens. -/
def Fed (O : ℕ → Ops) (S0 : ℕ → Fin 64 → Fin 64 → ℝ) : Prop :=
  ∀ t : Fin cfg0.N,
    Reads (iblk m c 0 t) (iblk m c 1 t) (iblk m c 2 t) (iblk m c 3 t) (iblk m c 4 t) (iblk m c 5 t) (iblk m c 6 t) (iblk m c 7 t) (iblk m c 8 t)
      (fun h => O (8 * (t.val / 64) + h.val)) (128 * (t.val % 64)) ∧
    ∀ (h : Fin 8) (i e : Fin 64), (iblk m c 9 t : Vec Ideal S8x64x64 .f32) (ix3 h i e) = ((S0 (8 * (t.val / 64) + h.val) i e : ℝ) : EReal)

/-- What a grid point's named outputs hold. -/
structure Holds (O : ℕ → Ops) (S0 : ℕ → Fin 64 → Fin 64 → ℝ) (n : ℕ) (acc : Vec Ideal S8x64x128 .bf16 × Vec Ideal S8x64x64 .f32 × Vec Ideal S8x64x64 .f32) : Prop where
  y : ∀ (h : Fin 8) (d : Fin 64) (t : Fin 128), acc.1 (ix3 h d t) = (((O (8 * (n / 64) + h.val)).res (S0 (8 * (n / 64) + h.val)) 0 (128 * (n % 64) + t.val) d : ℝ) : EReal)
  last : n % 64 = 63 → ∀ (h : Fin 8) (i e : Fin 64), acc.2.1 (ix3 h i e) = (((O (8 * (n / 64) + h.val)).run (S0 (8 * (n / 64) + h.val)) 0 8192 i e : ℝ) : EReal)
  s : ∀ (h : Fin 8) (i e : Fin 64), acc.2.2 (ix3 h i e) = (((O (8 * (n / 64) + h.val)).run (S0 (8 * (n / 64) + h.val)) 0 (128 * (n % 64) + 128) i e : ℝ) : EReal)

variable {m c} {O : ℕ → Ops} {S0 : ℕ → Fin 64 → Fin 64 → ℝ}

/-- One grid point. -/
theorem holds_step (F : Fed m c O S0) (t : Fin cfg0.N) (acc : Vec Ideal S8x64x128 .bf16 × Vec Ideal S8x64x64 .f32 × Vec Ideal S8x64x64 .f32)
    (ha : t.val % 64 ≠ 0 → ∀ (h : Fin 8) (i e : Fin 64), acc.2.2 (ix3 h i e) = (((O (8 * (t.val / 64) + h.val)).run (S0 (8 * (t.val / 64) + h.val)) 0 (128 * (t.val % 64)) i e : ℝ) : EReal)) :
    Holds O S0 t.val (stAt0 m c t.val t.isLt acc) := by
  obtain ⟨R, r9⟩ := F t
  by_cases h0 : t.val % 64 = 0
  · have h1 : ¬t.val % 64 = 63 := by omega
    rw [stAt0_A m c t acc h0 h1]
    have z : 128 * (t.val % 64) = 0 := by omega
    refine ⟨fun h d u => ?_, fun h => absurd h h1, fun h i e => ?_⟩
    · rw [Ops.res_add, z]
      rw [z] at R
      dsimp only; exact out10_A (R := R) (eS := r9) (h := h) (d := d) (t := u) ..
    · rw [Ops.run_add, z]
      rw [z] at R
      dsimp only; exact sout_A (R := R) (eS := r9) (h := h) (i' := i) (e := e) ..
  · by_cases h1 : t.val % 64 = 63
    · rw [stAt0_C m c t acc h0 h1]
      refine ⟨fun h d u => ?_, fun _ h i e => ?_, fun h i e => ?_⟩
      · rw [Ops.res_add]
        dsimp only; exact out10_C (R := R) (eS := ha h0) (h := h) (d := d) (t := u) ..
      · rw [show 8192 = 128 * (t.val % 64) + 128 by omega, Ops.run_add]
        dsimp only; exact out11_C (R := R) (eS := ha h0) (h := h) (i' := i) (e := e) ..
      · rw [Ops.run_add]
        dsimp only; exact sout_C (R := R) (eS := ha h0) (h := h) (i' := i) (e := e) ..
    · rw [stAt0_B m c t acc h0 h1]
      refine ⟨fun h d u => ?_, fun h => absurd h h1, fun h i e => ?_⟩
      · rw [Ops.res_add]
        dsimp only; exact out10_B (R := R) (eS := ha h0) (h := h) (d := d) (t := u) ..
      · rw [Ops.run_add]
        dsimp only; exact sout_B (R := R) (eS := ha h0) (h := h) (i' := i) (e := e) ..

/-- Every grid point. -/
theorem holds_fold (F : Fed m c O S0) (j : ℕ) (hj : 0 + j < cfg0.N) :
    Holds O S0 j (Pipeline.accAt (fun n h => stAt0 m c n h junk0) (stAt0 m c) 0 j hj) := by
  induction j with
  | zero =>
    rw [Pipeline.accAt_zero]
    exact holds_step F ⟨0, hj⟩ junk0 fun h => absurd rfl h
  | succ j ih =>
    have hj' : 0 + j < cfg0.N := by omega
    have hs := (ih hj').s
    rw [Pipeline.accAt_succ]
    have e0 : ∀ (n n' : ℕ) (hn : n < cfg0.N) (hn' : n' < cfg0.N) a, n = n' → stAt0 m c n hn a = stAt0 m c n' hn' a := fun n n' hn hn' a e => by subst e; rfl
    rw [e0 (0 + (j + 1)) (j + 1) hj (by omega) _ (by omega)]
    refine holds_step F ⟨j + 1, by omega⟩ _ fun h h' i e => ?_
    have q1 : (j + 1) / 64 = j / 64 := by simp only at h; omega
    have q2 : 128 * ((j + 1) % 64) = 128 * (j % 64) + 128 := by simp only at h; omega
    show _ = (((O (8 * ((j + 1) / 64) + h'.val)).run (S0 (8 * ((j + 1) / 64) + h'.val)) 0 (128 * ((j + 1) % 64)) i e : ℝ) : EReal)
    rw [q1, q2]
    exact hs h' i e

/-- The results of the whole grid. -/
theorem G10_eq (F : Fed m c O S0) (n : Fin 192) (d : Fin 64) (t : Fin 8192) :
    (G10 m c : Vec Ideal S192x64x8192 .bf16) (ix3 n d t) = (((O n.val).res (S0 n.val) 0 t.val d : ℝ) : EReal) := by
  have hp : pt10Of (ix3 n d t) = 64 * (n.val / 8) + t.val / 128 := by
    show 64 * (n.val / 8 - 0) + 64 * (d.val / 64 - 0) + 1 * (t.val / 128 - 0) = _; omega
  have hN : cfg0.N = 1536 := N_0
  have hlt : pt10Of (ix3 n d t) < cfg0.N := by omega
  unfold G10
  rw [dif_pos hlt]
  have hh := (holds_fold F (pt10Of (ix3 n d t)) (by omega)).y ⟨n.val % 8, Nat.mod_lt _ (by decide)⟩ d ⟨t.val % 128, Nat.mod_lt _ (by decide)⟩
  have hl : loc10Of (ix3 n d t) = ix3 (⟨n.val % 8, Nat.mod_lt _ (by decide)⟩ : Fin 8) d (⟨t.val % 128, Nat.mod_lt _ (by decide)⟩ : Fin 128) := by
    funext a; fin_cases a
    · rfl
    · apply Fin.ext; show d.val % 64 = d.val; omega
    · rfl
  rw [hl]
  refine hh.trans ?_
  rw [hp]
  have q1 : 8 * ((64 * (n.val / 8) + t.val / 128) / 64) + n.val % 8 = n.val := by omega
  have q2 : 128 * ((64 * (n.val / 8) + t.val / 128) % 64) + t.val % 128 = t.val := by omega
  dsimp only
  rw [q1, q2]

/-- The final states of the whole grid. -/
theorem G11_eq (F : Fed m c O S0) (n : Fin 192) (i e : Fin 64) :
    (G11 m c : Vec Ideal S192x64x64 .f32) (ix3 n i e) = (((O n.val).run (S0 n.val) 0 8192 i e : ℝ) : EReal) := by
  have hp : pt11Of (ix3 n i e) = 64 * (n.val / 8) + 63 := by
    show 64 * (1 * (n.val / 8 - 0) + 1 * (i.val / 64 - 0) + 1 * (e.val / 64 - 0)) + 63 = _; omega
  have hN : cfg0.N = 1536 := N_0
  have hlt : pt11Of (ix3 n i e) < cfg0.N := by omega
  unfold G11
  rw [dif_pos hlt]
  have hh := (holds_fold F (pt11Of (ix3 n i e)) (by omega)).last (by omega) ⟨n.val % 8, Nat.mod_lt _ (by decide)⟩ i e
  have hl : loc11Of (ix3 n i e) = ix3 (⟨n.val % 8, Nat.mod_lt _ (by decide)⟩ : Fin 8) i e := by
    funext a; fin_cases a
    · rfl
    · apply Fin.ext; show i.val % 64 = i.val; omega
    · apply Fin.ext; show e.val % 64 = e.val; omega
  rw [hl]
  refine hh.trans ?_
  rw [hp]
  have q1 : 8 * ((64 * (n.val / 8) + 63) / 64) + n.val % 8 = n.val := by omega
  dsimp only
  rw [q1]

end Cert.KernelIdeal.Head

end
-- ==== Proof.Host.lean ====
/- The grid point of the kernel as a group of heads and a chunk of tokens: which block of each array a point reads. -/
module

public import proofs.«01_k».proof.Proof.Fold
public import Idealize.ShloMosaic.Lib.Pipeline.ValueKit

@[expose] public section

set_option maxRecDepth 16384

noncomputable section

namespace Cert.KernelIdeal.Head

open Idealize.ShloMosaic Idealize.ShloMosaic.TcCoe Idealize.SL.Sem Cert.KernelIdeal Cert.KernelIdeal.Gen Wkv

/-- Which block of a head-major array a grid point reads. -/
theorem index3 : ∀ t : Fin cfg0.N, win0_0.index t = ![t.val / 64, 0, t.val % 64] ∧ win0_1.index t = ![t.val / 64, 0, t.val % 64]
    ∧ win0_2.index t = ![t.val / 64, 0, t.val % 64] ∧ win0_6.index t = ![t.val / 64, 0, t.val % 64]
    ∧ win0_7.index t = ![t.val / 64, 0, t.val % 64] ∧ win0_8.index t = ![t.val / 64, 0, t.val % 64] ∧ win0_9.index t = ![t.val / 64, 0, 0] :=
  (by decide +kernel : ∀ t : Fin grid0.N, _)
/-- Which block of a scale array a grid point reads. -/
theorem index2 : ∀ t : Fin cfg0.N, win0_3.index t = ![t.val / 64, t.val % 64] ∧ win0_4.index t = ![t.val / 64, t.val % 64]
    ∧ win0_5.index t = ![t.val / 64, t.val % 64] :=
  (by decide +kernel : ∀ t : Fin grid0.N, _)

variable (m : (ℓ : Loc nD τ sig) → Buf (Elt Ideal) ℓ) (c : Dev nD)

/-- A head of a point. -/
def hd (t : Fin cfg0.N) (h : Fin 8) : Fin 192 := ⟨8 * (t.val / 64) + h.val, by have := t.isLt; have hN : cfg0.N = 1536 := N_0; omega⟩
/-- A token of a point. -/
def tk (t : Fin cfg0.N) (u : Fin 128) : Fin 8192 := ⟨128 * (t.val % 64) + u.val, by omega⟩

end Cert.KernelIdeal.Head

end
-- ==== Proof.HostA.lean ====
/- Windows 0 to 2 of the kernel at a grid point, read off the arguments. -/
module

public import proofs.«01_k».proof.Proof.Host
public import Idealize.ShloMosaic.Lib.Pipeline.ValueKit

@[expose] public section

set_option maxRecDepth 16384

noncomputable section

namespace Cert.KernelIdeal.Head

open Idealize.ShloMosaic Idealize.ShloMosaic.TcCoe Idealize.SL.Sem Cert.KernelIdeal Cert.KernelIdeal.Gen Wkv

variable (m : (ℓ : Loc nD τ sig) → Buf (Elt Ideal) ℓ) (c : Dev nD)

/-- Window 0 at a grid point, as the array it reads. -/
theorem iblk0 (t : Fin cfg0.N) (h : Fin 8) (d : Fin 64) (u : Fin 128) :
    (iblk m c 0 t : Vec Ideal S8x64x128 .fp8e4m3) (ix3 h d u) = (V m c main_v4 : Vec Ideal S192x64x8192 .fp8e4m3) (ix3 (hd t h) d (tk t u)) := by
  have hi := (index3 t).1
  unfold iblk
  rw [View.read_apply]
  show V m c main_v4 _ = _
  congr 1
  funext a
  apply Fin.ext
  match a with
  | ⟨0, _⟩ => show win0_0.index t 0 * 8 + 1 * h.val = 8 * (t.val / 64) + h.val; rw [hi]; show t.val / 64 * 8 + 1 * h.val = _; omega
  | ⟨1, _⟩ => show win0_0.index t 1 * 64 + 1 * d.val = d.val; rw [hi]; show 0 * 64 + 1 * d.val = _; omega
  | ⟨2, _⟩ => show win0_0.index t 2 * 128 + 1 * u.val = 128 * (t.val % 64) + u.val; rw [hi]; show t.val % 64 * 128 + 1 * u.val = _; omega

/-- That array as an argument. -/
theorem V4 (n : Fin 192) (d : Fin 64) (t : Fin 8192) :
    (V m c main_v4 : Vec Ideal S192x64x8192 .fp8e4m3) (ix3 n d t)
      = (bitcastToFloat (F := Ideal) .fp8e4m3 (m ((c : Thread nD τ).loc main_arg0) : Vec Ideal S12x16x8192x64 .i8) (ix4 ⟨n.val / 16, by omega⟩ ⟨n.val % 16, by omega⟩ t d) : EReal) := by
  entry_read
  pointwise []

/-- Window 1 at a grid point, as the array it reads. -/
theorem iblk1 (t : Fin cfg0.N) (h : Fin 8) (d : Fin 64) (u : Fin 128) :
    (iblk m c 1 t : Vec Ideal S8x64x128 .fp8e4m3) (ix3 h d u) = (V m c main_v6 : Vec Ideal S192x64x8192 .fp8e4m3) (ix3 (hd t h) d (tk t u)) := by
  have hi := (index3 t).2.1
  unfold iblk
  rw [View.read_apply]
  show V m c main_v6 _ = _
  congr 1
  funext a
  apply Fin.ext
  match a with
  | ⟨0, _⟩ => show win0_1.index t 0 * 8 + 1 * h.val = 8 * (t.val / 64) + h.val; rw [hi]; show t.val / 64 * 8 + 1 * h.val = _; omega
  | ⟨1, _⟩ => show win0_1.index t 1 * 64 + 1 * d.val = d.val; rw [hi]; show 0 * 64 + 1 * d.val = _; omega
  | ⟨2, _⟩ => show win0_1.index t 2 * 128 + 1 * u.val = 128 * (t.val % 64) + u.val; rw [hi]; show t.val % 64 * 128 + 1 * u.val = _; omega

/-- That array as an argument. -/
theorem V6 (n : Fin 192) (d : Fin 64) (t : Fin 8192) :
    (V m c main_v6 : Vec Ideal S192x64x8192 .fp8e4m3) (ix3 n d t)
      = (bitcastToFloat (F := Ideal) .fp8e4m3 (m ((c : Thread nD τ).loc main_arg1) : Vec Ideal S12x16x8192x64 .i8) (ix4 ⟨n.val / 16, by omega⟩ ⟨n.val % 16, by omega⟩ t d) : EReal) := by
  entry_read
  pointwise []

/-- Window 2 at a grid point, as the array it reads. -/
theorem iblk2 (t : Fin cfg0.N) (h : Fin 8) (d : Fin 64) (u : Fin 128) :
    (iblk m c 2 t : Vec Ideal S8x64x128 .fp8e4m3) (ix3 h d u) = (V m c main_v8 : Vec Ideal S192x64x8192 .fp8e4m3) (ix3 (hd t h) d (tk t u)) := by
  have hi := (index3 t).2.2.1
  unfold iblk
  rw [View.read_apply]
  show V m c main_v8 _ = _
  congr 1
  funext a
  apply Fin.ext
  match a with
  | ⟨0, _⟩ => show win0_2.index t 0 * 8 + 1 * h.val = 8 * (t.val / 64) + h.val; rw [hi]; show t.val / 64 * 8 + 1 * h.val = _; omega
  | ⟨1, _⟩ => show win0_2.index t 1 * 64 + 1 * d.val = d.val; rw [hi]; show 0 * 64 + 1 * d.val = _; omega
  | ⟨2, _⟩ => show win0_2.index t 2 * 128 + 1 * u.val = 128 * (t.val % 64) + u.val; rw [hi]; show t.val % 64 * 128 + 1 * u.val = _; omega

/-- That array as an argument. -/
theorem V8 (n : Fin 192) (d : Fin 64) (t : Fin 8192) :
    (V m c main_v8 : Vec Ideal S192x64x8192 .fp8e4m3) (ix3 n d t)
      = (bitcastToFloat (F := Ideal) .fp8e4m3 (m ((c : Thread nD τ).loc main_arg2) : Vec Ideal S12x16x8192x64 .i8) (ix4 ⟨n.val / 16, by omega⟩ ⟨n.val % 16, by omega⟩ t d) : EReal) := by
  entry_read
  pointwise []

end Cert.KernelIdeal.Head

end
-- ==== Proof.HostB.lean ====
/- Windows 3 to 5 of the kernel at a grid point, read off the arguments. -/
module

public import proofs.«01_k».proof.Proof.Host
public import Idealize.ShloMosaic.Lib.Pipeline.ValueKit

@[expose] public section

set_option maxRecDepth 16384

noncomputable section

namespace Cert.KernelIdeal.Head

open Idealize.ShloMosaic Idealize.ShloMosaic.TcCoe Idealize.SL.Sem Cert.KernelIdeal Cert.KernelIdeal.Gen Wkv

variable (m : (ℓ : Loc nD τ sig) → Buf (Elt Ideal) ℓ) (c : Dev nD)

/-- Window 3 at a grid point, as the array it reads. -/
theorem iblk3 (t : Fin cfg0.N) (h : Fin 8) (u : Fin 128) :
    (iblk m c 3 t : Vec Ideal S8x128 .f32) (ix2 h u) = (V m c main_v9 : Vec Ideal S192x8192 .f32) (ix2 (hd t h) (tk t u)) := by
  have hi := (index2 t).1
  unfold iblk
  rw [View.read_apply]
  show V m c main_v9 _ = _
  congr 1
  funext a
  apply Fin.ext
  match a with
  | ⟨0, _⟩ => show win0_3.index t 0 * 8 + 1 * h.val = 8 * (t.val / 64) + h.val; rw [hi]; show t.val / 64 * 8 + 1 * h.val = _; omega
  | ⟨1, _⟩ => show win0_3.index t 1 * 128 + 1 * u.val = 128 * (t.val % 64) + u.val; rw [hi]; show t.val % 64 * 128 + 1 * u.val = _; omega

/-- That array as an argument. -/
theorem V9 (n : Fin 192) (t : Fin 8192) :
    (V m c main_v9 : Vec Ideal S192x8192 .f32) (ix2 n t)
      = ((m ((c : Thread nD τ).loc main_arg3) : Vec Ideal S12x16x8192 .f32) (ix3 ⟨n.val / 16, by omega⟩ ⟨n.val % 16, by omega⟩ t) : EReal) := by
  entry_read
  pointwise []

/-- Window 4 at a grid point, as the array it reads. -/
theorem iblk4 (t : Fin cfg0.N) (h : Fin 8) (u : Fin 128) :
    (iblk m c 4 t : Vec Ideal S8x128 .f32) (ix2 h u) = (V m c main_v10 : Vec Ideal S192x8192 .f32) (ix2 (hd t h) (tk t u)) := by
  have hi := (index2 t).2.1
  unfold iblk
  rw [View.read_apply]
  show V m c main_v10 _ = _
  congr 1
  funext a
  apply Fin.ext
  match a with
  | ⟨0, _⟩ => show win0_4.index t 0 * 8 + 1 * h.val = 8 * (t.val / 64) + h.val; rw [hi]; show t.val / 64 * 8 + 1 * h.val = _; omega
  | ⟨1, _⟩ => show win0_4.index t 1 * 128 + 1 * u.val = 128 * (t.val % 64) + u.val; rw [hi]; show t.val % 64 * 128 + 1 * u.val = _; omega

/-- That array as an argument. -/
theorem V10 (n : Fin 192) (t : Fin 8192) :
    (V m c main_v10 : Vec Ideal S192x8192 .f32) (ix2 n t)
      = ((m ((c : Thread nD τ).loc main_arg4) : Vec Ideal S12x16x8192 .f32) (ix3 ⟨n.val / 16, by omega⟩ ⟨n.val % 16, by omega⟩ t) : EReal) := by
  entry_read
  pointwise []

/-- Window 5 at a grid point, as the array it reads. -/
theorem iblk5 (t : Fin cfg0.N) (h : Fin 8) (u : Fin 128) :
    (iblk m c 5 t : Vec Ideal S8x128 .f32) (ix2 h u) = (V m c main_v11 : Vec Ideal S192x8192 .f32) (ix2 (hd t h) (tk t u)) := by
  have hi := (index2 t).2.2
  unfold iblk
  rw [View.read_apply]
  show V m c main_v11 _ = _
  congr 1
  funext a
  apply Fin.ext
  match a with
  | ⟨0, _⟩ => show win0_5.index t 0 * 8 + 1 * h.val = 8 * (t.val / 64) + h.val; rw [hi]; show t.val / 64 * 8 + 1 * h.val = _; omega
  | ⟨1, _⟩ => show win0_5.index t 1 * 128 + 1 * u.val = 128 * (t.val % 64) + u.val; rw [hi]; show t.val % 64 * 128 + 1 * u.val = _; omega

/-- That array as an argument. -/
theorem V11 (n : Fin 192) (t : Fin 8192) :
    (V m c main_v11 : Vec Ideal S192x8192 .f32) (ix2 n t)
      = ((m ((c : Thread nD τ).loc main_arg5) : Vec Ideal S12x16x8192 .f32) (ix3 ⟨n.val / 16, by omega⟩ ⟨n.val % 16, by omega⟩ t) : EReal) := by
  entry_read
  pointwise []

end Cert.KernelIdeal.Head

end
-- ==== Proof.HostC.lean ====
/- Windows 6 to 9 of the kernel at a grid point, read off the arguments. -/
module

public import proofs.«01_k».proof.Proof.Host
public import Idealize.ShloMosaic.Lib.Pipeline.ValueKit

@[expose] public section

set_option maxRecDepth 16384

noncomputable section

namespace Cert.KernelIdeal.Head

open Idealize.ShloMosaic Idealize.ShloMosaic.TcCoe Idealize.SL.Sem Cert.KernelIdeal Cert.KernelIdeal.Gen Wkv

variable (m : (ℓ : Loc nD τ sig) → Buf (Elt Ideal) ℓ) (c : Dev nD)

/-- Window 6 at a grid point, as the array it reads. -/
theorem iblk6 (t : Fin cfg0.N) (h : Fin 8) (d : Fin 64) (u : Fin 128) :
    (iblk m c 6 t : Vec Ideal S8x64x128 .bf16) (ix3 h d u) = (V m c main_v13 : Vec Ideal S192x64x8192 .bf16) (ix3 (hd t h) d (tk t u)) := by
  have hi := (index3 t).2.2.2.1
  unfold iblk
  rw [View.read_apply]
  show V m c main_v13 _ = _
  congr 1
  funext a
  apply Fin.ext
  match a with
  | ⟨0, _⟩ => show win0_6.index t 0 * 8 + 1 * h.val = 8 * (t.val / 64) + h.val; rw [hi]; show t.val / 64 * 8 + 1 * h.val = _; omega
  | ⟨1, _⟩ => show win0_6.index t 1 * 64 + 1 * d.val = d.val; rw [hi]; show 0 * 64 + 1 * d.val = _; omega
  | ⟨2, _⟩ => show win0_6.index t 2 * 128 + 1 * u.val = 128 * (t.val % 64) + u.val; rw [hi]; show t.val % 64 * 128 + 1 * u.val = _; omega

/-- That array as an argument. -/
theorem V13 (n : Fin 192) (d : Fin 64) (t : Fin 8192) :
    (V m c main_v13 : Vec Ideal S192x64x8192 .bf16) (ix3 n d t)
      = ((m ((c : Thread nD τ).loc main_arg6) : Vec Ideal S12x16x8192x64 .bf16) (ix4 ⟨n.val / 16, by omega⟩ ⟨n.val % 16, by omega⟩ t d) : EReal) := by
  entry_read
  pointwise []

/-- Window 7 at a grid point, as the array it reads. -/
theorem iblk7 (t : Fin cfg0.N) (h : Fin 8) (d : Fin 64) (u : Fin 128) :
    (iblk m c 7 t : Vec Ideal S8x64x128 .bf16) (ix3 h d u) = (V m c main_v15 : Vec Ideal S192x64x8192 .bf16) (ix3 (hd t h) d (tk t u)) := by
  have hi := (index3 t).2.2.2.2.1
  unfold iblk
  rw [View.read_apply]
  show V m c main_v15 _ = _
  congr 1
  funext a
  apply Fin.ext
  match a with
  | ⟨0, _⟩ => show win0_7.index t 0 * 8 + 1 * h.val = 8 * (t.val / 64) + h.val; rw [hi]; show t.val / 64 * 8 + 1 * h.val = _; omega
  | ⟨1, _⟩ => show win0_7.index t 1 * 64 + 1 * d.val = d.val; rw [hi]; show 0 * 64 + 1 * d.val = _; omega
  | ⟨2, _⟩ => show win0_7.index t 2 * 128 + 1 * u.val = 128 * (t.val % 64) + u.val; rw [hi]; show t.val % 64 * 128 + 1 * u.val = _; omega

/-- That array as an argument. -/
theorem V15 (n : Fin 192) (d : Fin 64) (t : Fin 8192) :
    (V m c main_v15 : Vec Ideal S192x64x8192 .bf16) (ix3 n d t)
      = ((m ((c : Thread nD τ).loc main_arg7) : Vec Ideal S12x16x8192x64 .bf16) (ix4 ⟨n.val / 16, by omega⟩ ⟨n.val % 16, by omega⟩ t d) : EReal) := by
  entry_read
  pointwise []

/-- Window 8 at a grid point, as the array it reads. -/
theorem iblk8 (t : Fin cfg0.N) (h : Fin 8) (d : Fin 64) (u : Fin 128) :
    (iblk m c 8 t : Vec Ideal S8x64x128 .bf16) (ix3 h d u) = (V m c main_v17 : Vec Ideal S192x64x8192 .bf16) (ix3 (hd t h) d (tk t u)) := by
  have hi := (index3 t).2.2.2.2.2.1
  unfold iblk
  rw [View.read_apply]
  show V m c main_v17 _ = _
  congr 1
  funext a
  apply Fin.ext
  match a with
  | ⟨0, _⟩ => show win0_8.index t 0 * 8 + 1 * h.val = 8 * (t.val / 64) + h.val; rw [hi]; show t.val / 64 * 8 + 1 * h.val = _; omega
  | ⟨1, _⟩ => show win0_8.index t 1 * 64 + 1 * d.val = d.val; rw [hi]; show 0 * 64 + 1 * d.val = _; omega
  | ⟨2, _⟩ => show win0_8.index t 2 * 128 + 1 * u.val = 128 * (t.val % 64) + u.val; rw [hi]; show t.val % 64 * 128 + 1 * u.val = _; omega

/-- That array as an argument. -/
theorem V17 (n : Fin 192) (d : Fin 64) (t : Fin 8192) :
    (V m c main_v17 : Vec Ideal S192x64x8192 .bf16) (ix3 n d t)
      = ((m ((c : Thread nD τ).loc main_arg8) : Vec Ideal S12x16x8192x64 .bf16) (ix4 ⟨n.val / 16, by omega⟩ ⟨n.val % 16, by omega⟩ t d) : EReal) := by
  entry_read
  pointwise []

/-- Window 9 at a grid point, as the array it reads. -/
theorem iblk9 (t : Fin cfg0.N) (h : Fin 8) (i e : Fin 64) :
    (iblk m c 9 t : Vec Ideal S8x64x64 .f32) (ix3 h i e) = (V m c main_v18 : Vec Ideal S192x64x64 .f32) (ix3 (hd t h) i e) := by
  have hi := (index3 t).2.2.2.2.2.2
  unfold iblk
  rw [View.read_apply]
  show V m c main_v18 _ = _
  congr 1
  funext a
  apply Fin.ext
  match a with
  | ⟨0, _⟩ => show win0_9.index t 0 * 8 + 1 * h.val = 8 * (t.val / 64) + h.val; rw [hi]; show t.val / 64 * 8 + 1 * h.val = _; omega
  | ⟨1, _⟩ => show win0_9.index t 1 * 64 + 1 * i.val = i.val; rw [hi]; show 0 * 64 + 1 * i.val = _; omega
  | ⟨2, _⟩ => show win0_9.index t 2 * 64 + 1 * e.val = e.val; rw [hi]; show 0 * 64 + 1 * e.val = _; omega

/-- That array as an argument. -/
theorem V18 (n : Fin 192) (i e : Fin 64) :
    (V m c main_v18 : Vec Ideal S192x64x64 .f32) (ix3 n i e)
      = ((m ((c : Thread nD τ).loc main_arg9) : Vec Ideal S12x16x64x64 .f32) (ix4 ⟨n.val / 16, by omega⟩ ⟨n.val % 16, by omega⟩ i e) : EReal) := by
  entry_read
  pointwise []

end Cert.KernelIdeal.Head

end
-- ==== Proof.Data.lean ====
/- The numbers the arguments hold, head by head and token by token, and when an argument holds only real numbers. -/
module

public import proofs.«01_k».proof.Proof.Block

@[expose] public section

set_option maxRecDepth 16384

noncomputable section

namespace Cert.Data

open Idealize.ShloMosaic Cert.KernelIdeal.Head

/-- The arrays of batch, head, token, channel. -/
abbrev Tall : Shape := ⟨4, ![12, 16, 8192, 64]⟩
/-- The arrays of batch, head, token. -/
abbrev Flat : Shape := ⟨3, ![12, 16, 8192]⟩
/-- The states: batch, head, row, column. -/
abbrev Square : Shape := ⟨4, ![12, 16, 64, 64]⟩

/-- An extended real that is a real. -/
def IsReal (x : EReal) : Prop := x = (x.toReal : EReal)

/-- A real is real. -/
theorem isReal_coe (x : ℝ) : IsReal (x : EReal) := by
  unfold IsReal
  rw [EReal.toReal_coe]

/-- The entry of a tall array at head `n` of all 192, channel `d`, token `t`. -/
def at4 (f : Tall.Idx → EReal) (n : ℕ) (d : Fin 64) (t : ℕ) : ℝ :=
  if h : n < 192 ∧ t < 8192 then (f (ix4 ⟨n / 16, by omega⟩ ⟨n % 16, by omega⟩ ⟨t, h.2⟩ d)).toReal else 0
/-- The entry of a flat array at head `n`, token `t`. -/
def at3 (f : Flat.Idx → EReal) (n t : ℕ) : ℝ :=
  if h : n < 192 ∧ t < 8192 then (f (ix3 ⟨n / 16, by omega⟩ ⟨n % 16, by omega⟩ ⟨t, h.2⟩)).toReal else 0
/-- The state of head `n`. -/
def atS (f : Square.Idx → EReal) (n : ℕ) (i e : Fin 64) : ℝ :=
  if h : n < 192 then (f (ix4 ⟨n / 16, by omega⟩ ⟨n % 16, by omega⟩ i e)).toReal else 0

/-- A tall array of reals, entry by entry. -/
theorem at4_eq {f : Tall.Idx → EReal} (hf : ∀ i, IsReal (f i)) (n : Fin 192) (d : Fin 64) (t : Fin 8192) :
    f (ix4 ⟨n.val / 16, by omega⟩ ⟨n.val % 16, by omega⟩ t d) = ((at4 f n.val d t.val : ℝ) : EReal) := by
  unfold at4
  rw [dif_pos ⟨n.isLt, t.isLt⟩]
  exact hf _
/-- A flat array of reals, entry by entry. -/
theorem at3_eq {f : Flat.Idx → EReal} (hf : ∀ i, IsReal (f i)) (n : Fin 192) (t : Fin 8192) :
    f (ix3 ⟨n.val / 16, by omega⟩ ⟨n.val % 16, by omega⟩ t) = ((at3 f n.val t.val : ℝ) : EReal) := by
  unfold at3
  rw [dif_pos ⟨n.isLt, t.isLt⟩]
  exact hf _
/-- States of reals, entry by entry. -/
theorem atS_eq {f : Square.Idx → EReal} (hf : ∀ i, IsReal (f i)) (n : Fin 192) (i e : Fin 64) :
    f (ix4 ⟨n.val / 16, by omega⟩ ⟨n.val % 16, by omega⟩ i e) = ((atS f n.val i e : ℝ) : EReal) := by
  unfold atS
  rw [dif_pos n.isLt]
  exact hf _

/-- The numbers a byte array's codes stand for. -/
def decoded (a : IVec Tall 8) : Tall.Idx → EReal := bitcastToFloat (F := Ideal) .fp8e4m3 a

/-- The operands of each head, from the nine argument arrays. -/
def opsOf (a0 a1 a2 : IVec Tall 8) (a3 a4 a5 : Flat.Idx → EReal) (a6 a7 a8 : Tall.Idx → EReal) (n : ℕ) : Ops where
  r := at4 (decoded a0) n
  k := at4 (decoded a1) n
  v := at4 (decoded a2) n
  rs := at3 a3 n
  ks := at3 a4 n
  vs := at3 a5 n
  w := at4 a6 n
  kk := at4 a7 n
  ic := at4 a8 n

/-- Every argument holds real numbers only. -/
structure AllReal (a0 a1 a2 : IVec Tall 8) (a3 a4 a5 : Flat.Idx → EReal) (a6 a7 a8 : Tall.Idx → EReal) (a9 : Square.Idx → EReal) : Prop where
  r : ∀ i, IsReal (decoded a0 i)
  k : ∀ i, IsReal (decoded a1 i)
  v : ∀ i, IsReal (decoded a2 i)
  rs : ∀ i, IsReal (a3 i)
  ks : ∀ i, IsReal (a4 i)
  vs : ∀ i, IsReal (a5 i)
  w : ∀ i, IsReal (a6 i)
  kk : ∀ i, IsReal (a7 i)
  ic : ∀ i, IsReal (a8 i)
  s : ∀ i, IsReal (a9 i)

end Cert.Data

end
-- ==== Proof.Feed.lean ====
/- What the grid feeds the kernel is the data of the arguments. -/
module

public import proofs.«01_k».proof.Proof.HostA
public import proofs.«01_k».proof.Proof.HostB
public import proofs.«01_k».proof.Proof.HostC
public import proofs.«01_k».proof.Proof.Data

@[expose] public section

set_option maxRecDepth 16384

noncomputable section

namespace Cert.KernelIdeal.Head

open Idealize.ShloMosaic Idealize.ShloMosaic.TcCoe Idealize.SL.Sem Cert.KernelIdeal Cert.KernelIdeal.Gen Cert.Data Wkv

variable (m : (ℓ : Loc nD τ sig) → Buf (Elt Ideal) ℓ) (c : Dev nD)

/-- Each point's blocks are the operands of its heads and its tokens. -/
theorem fed (H : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    Fed m c (opsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (atS (m ((c : Thread nD τ).loc main_arg9))) := fun t => ⟨{
    r := fun h d u => (iblk0 m c t h d u).trans ((V4 m c (hd t h) d (tk t u)).trans (at4_eq H.r (hd t h) d (tk t u)))
    k := fun h d u => (iblk1 m c t h d u).trans ((V6 m c (hd t h) d (tk t u)).trans (at4_eq H.k (hd t h) d (tk t u)))
    v := fun h d u => (iblk2 m c t h d u).trans ((V8 m c (hd t h) d (tk t u)).trans (at4_eq H.v (hd t h) d (tk t u)))
    rs := fun h u => (iblk3 m c t h u).trans ((V9 m c (hd t h) (tk t u)).trans (at3_eq H.rs (hd t h) (tk t u)))
    ks := fun h u => (iblk4 m c t h u).trans ((V10 m c (hd t h) (tk t u)).trans (at3_eq H.ks (hd t h) (tk t u)))
    vs := fun h u => (iblk5 m c t h u).trans ((V11 m c (hd t h) (tk t u)).trans (at3_eq H.vs (hd t h) (tk t u)))
    w := fun h d u => (iblk6 m c t h d u).trans ((V13 m c (hd t h) d (tk t u)).trans (at4_eq H.w (hd t h) d (tk t u)))
    kk := fun h d u => (iblk7 m c t h d u).trans ((V15 m c (hd t h) d (tk t u)).trans (at4_eq H.kk (hd t h) d (tk t u)))
    ic := fun h d u => (iblk8 m c t h d u).trans ((V17 m c (hd t h) d (tk t u)).trans (at4_eq H.ic (hd t h) d (tk t u))) },
  fun h i e => (iblk9 m c t h i e).trans ((V18 m c (hd t h) i e).trans (atS_eq H.s (hd t h) i e))⟩

end Cert.KernelIdeal.Head

end
-- ==== Proof.RefLoop.lean ====
/- The reference's loop as a function: what one trip yields and what the two results are. -/
module

public import proofs.«01_k».proof.Proof.Gen.ReferenceIdeal.Value

@[expose] public section

set_option maxRecDepth 16384

noncomputable section

namespace Cert.ReferenceIdeal.Loop

open Idealize.ShloMosaic Idealize.ShloMosaic.TcCoe Idealize.ShloMosaic.Tactic Idealize.SL.Sem Cert.ReferenceIdeal Cert.ReferenceIdeal.Gen

variable {F : FTy → Type} [FloatOps F]

/-- The box of token `k` in an operand. -/
abbrev rcT (k : Fin k0_t1_loop.trips) : Rect S8192x192x64 := Rect.unit (s := S8192x192x64) (k0_off1 k) S1x192x64.size (k0_off1_inb k)
/-- The box of token `k` in a scale. -/
abbrev rcU (k : Fin k0_t1_loop.trips) : Rect S8192x192 := Rect.unit (s := S8192x192) (k0_off2 k) S1x192.size (k0_off2_inb k)
/-- The load of token `k` of an operand. -/
def ldT {e : EltTy} (M : Memref sig .tc .vmem S8192x192x64 e) (hM : M.IsWhole) (x : Vec F S8192x192x64 e) (k : Fin k0_t1_loop.trips) : Vec F S1x192x64 e :=
  View.readAt (Elt F) M.view (rcT k).toLoadRect (hM.unread x)
/-- The load of token `k` of a scale. -/
def ldU {e : EltTy} (M : Memref sig .tc .vmem S8192x192 e) (hM : M.IsWhole) (x : Vec F S8192x192 e) (k : Fin k0_t1_loop.trips) : Vec F S1x192 e :=
  View.readAt (Elt F) M.view (rcU k).toLoadRect (hM.unread x)
/-- The state after one token. -/
def stepS (k v : Vec F S1x192x64 .fp8e4m3) (ks vs : Vec F S1x192 .f32) (w kk ic : Vec F S1x192x64 .bf16) (S : FVec F S192x64x64 .f32) : FVec F S192x64x64 .f32 :=
  k0_pay3 S (k0_pay7 k ks) (k0_pay8 v vs) (k0_pay9 w) (k0_pay10 kk) (k0_pay11 kk) ic
/-- The results after one token. -/
def stepY (i : BitVec 32) (r k v : Vec F S1x192x64 .fp8e4m3) (rs ks vs : Vec F S1x192 .f32) (w kk ic : Vec F S1x192x64 .bf16) (S : FVec F S192x64x64 .f32) (Y : FVec F S192x64x8192 .f32) : FVec F S192x64x8192 .f32 :=
  k0_pay4 S Y i (k0_pay6 r rs) (k0_pay7 k ks) (k0_pay8 v vs) (k0_pay9 w) (k0_pay10 kk) (k0_pay11 kk) ic

set_option maxHeartbeats 0 in
/-- One trip of the loop. -/
theorem trip_eq (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec F S8192x192x64 .fp8e4m3) (x1 : Vec F S8192x192x64 .fp8e4m3) (x2 : Vec F S8192x192x64 .fp8e4m3) (x3 : Vec F S8192x192 .f32) (x4 : Vec F S8192x192 .f32) (x5 : Vec F S8192x192 .f32) (x6 : Vec F S8192x192x64 .bf16) (x7 : Vec F S8192x192x64 .bf16) (x8 : Vec F S8192x192x64 .bf16) (x9 : Vec F S192x64x64 .f32) (k : Fin k0_t1_loop.trips) (acc : FVec F S192x64x64 .f32 × FVec F S192x64x8192 .f32) :
    tripR_k0_t1 (F := F) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) k acc
      = (stepS (ldT arg1 harg1 x1 k) (ldT arg2 harg2 x2 k) (ldU arg4 harg4 x4 k) (ldU arg5 harg5 x5 k) (ldT arg6 harg6 x6 k) (ldT arg7 harg7 x7 k) (ldT arg8 harg8 x8 k) acc.1,
         stepY (Scf.iv (0#32) (1#32) k) (ldT arg0 harg0 x0 k) (ldT arg1 harg1 x1 k) (ldT arg2 harg2 x2 k) (ldU arg3 harg3 x3 k) (ldU arg4 harg4 x4 k) (ldU arg5 harg5 x5 k) (ldT arg6 harg6 x6 k) (ldT arg7 harg7 x7 k) (ldT arg8 harg8 x8 k) acc.1 acc.2) := by sl_kernel_rfl

/-- The carried pair before trip `n`. -/
def carry (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec F S8192x192x64 .fp8e4m3) (x1 : Vec F S8192x192x64 .fp8e4m3) (x2 : Vec F S8192x192x64 .fp8e4m3) (x3 : Vec F S8192x192 .f32) (x4 : Vec F S8192x192 .f32) (x5 : Vec F S8192x192 .f32) (x6 : Vec F S8192x192x64 .bf16) (x7 : Vec F S8192x192x64 .bf16) (x8 : Vec F S8192x192x64 .bf16) (x9 : Vec F S192x64x64 .f32) : ℕ → FVec F S192x64x64 .f32 × FVec F S192x64x8192 .f32 :=
  st_k0_t1 (F := F) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8)
    (k0_pay1 (View.readAt (Elt F) arg9.view (Rect.unit (s := S192x64x64) ![0, 0, 0] S192x64x64.size inb_S192x64x64_S192x64x64_0_0_0).toLoadRect (harg9.unread x9)), k0_pay2 (F := F))

set_option maxHeartbeats 0 in
/-- The one store into the result. -/
theorem pieces10 (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec F S8192x192x64 .fp8e4m3) (x1 : Vec F S8192x192x64 .fp8e4m3) (x2 : Vec F S8192x192x64 .fp8e4m3) (x3 : Vec F S8192x192 .f32) (x4 : Vec F S8192x192 .f32) (x5 : Vec F S8192x192 .f32) (x6 : Vec F S8192x192x64 .bf16) (x7 : Vec F S8192x192x64 .bf16) (x8 : Vec F S8192x192x64 .bf16) (x9 : Vec F S192x64x64 .f32) :
    (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9).1 = [⟨Rect.unit (s := S192x64x8192) ![0, 0, 0] S192x64x8192.size inb_S192x64x8192_S192x64x8192_0_0_0,
      k0_pay5 (carry (F := F) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 k0_t1_loop.trips).2⟩] := by sl_kernel_rfl

set_option maxHeartbeats 0 in
/-- The one store into the final state. -/
theorem pieces11 (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec F S8192x192x64 .fp8e4m3) (x1 : Vec F S8192x192x64 .fp8e4m3) (x2 : Vec F S8192x192x64 .fp8e4m3) (x3 : Vec F S8192x192 .f32) (x4 : Vec F S8192x192 .f32) (x5 : Vec F S8192x192 .f32) (x6 : Vec F S8192x192x64 .bf16) (x7 : Vec F S8192x192x64 .bf16) (x8 : Vec F S8192x192x64 .bf16) (x9 : Vec F S192x64x64 .f32) :
    (kernelRun0_A (F := F) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9).2.1 = [⟨Rect.unit (s := S192x64x64) ![0, 0, 0] S192x64x64.size inb_S192x64x64_S192x64x64_0_0_0,
      (carry (F := F) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 k0_t1_loop.trips).1⟩] := by sl_kernel_rfl

/-- The carried pair after one more trip. -/
theorem carry_succ (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec F S8192x192x64 .fp8e4m3) (x1 : Vec F S8192x192x64 .fp8e4m3) (x2 : Vec F S8192x192x64 .fp8e4m3) (x3 : Vec F S8192x192 .f32) (x4 : Vec F S8192x192 .f32) (x5 : Vec F S8192x192 .f32) (x6 : Vec F S8192x192x64 .bf16) (x7 : Vec F S8192x192x64 .bf16) (x8 : Vec F S8192x192x64 .bf16) (x9 : Vec F S192x64x64 .f32) (k : Fin k0_t1_loop.trips) :
    carry (F := F) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (k.val + 1)
      = tripR_k0_t1 (F := F) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) k (carry (F := F) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 k.val) :=
  st_k0_t1_succ ..

end Cert.ReferenceIdeal.Loop

end
-- ==== Proof.RefSem.lean ====
/- One token of the reference on reals. -/
module

public import proofs.«01_k».proof.Proof.RefLoop
public import proofs.«01_k».proof.Proof.Recur
public import Idealize.ShloMosaic.Lib.Pointwise
public import Idealize.ShloMosaic.Lib.WholeRead

@[expose] public section

set_option maxRecDepth 16384

noncomputable section

namespace Cert.ReferenceIdeal.Loop

open Idealize.ShloMosaic Idealize.ShloMosaic.TcCoe Idealize.SL.Sem Cert.ReferenceIdeal Cert.ReferenceIdeal.Gen Wkv

/-- The exponential of a real. -/
theorem exp_coe (x : ℝ) : Ideal.exp (x : EReal) = ((Real.exp x : ℝ) : EReal) := rfl
/-- A sum of reals. -/
theorem coe_sum {α : Type} (s : Finset α) (f : α → ℝ) : (∑ a ∈ s, (f a : EReal)) = ((∑ a ∈ s, f a : ℝ) : EReal) := by
  classical
  induction s using Finset.induction_on with
  | empty => simp
  | insert a s h ih => rw [Finset.sum_insert h, Finset.sum_insert h, ih, EReal.coe_add]
/-- A selection by equality. -/
theorem coe_sel (p q : BitVec 32) {α : Type} (x y : α) : Scalar.select (IntOp.cmpi CmpIPredicate.eq p q) x y = if p = q then x else y := by
  by_cases h : p = q
  · subst h; rw [if_pos rfl]; simp [Scalar.select, IntOp.cmpi]
  · rw [if_neg h]; have hb : (p == q) = false := by simpa using h
    simp [Scalar.select, IntOp.cmpi, hb]
/-- Zero minus a real. -/
theorem zsub (x : ℝ) : (0 : EReal) - (x : EReal) = ((-x : ℝ) : EReal) := by
  rw [← EReal.coe_zero, ← EReal.coe_sub, zero_sub]

variable {r k v : Vec Ideal S1x192x64 .fp8e4m3} {rs ks vs : Vec Ideal S1x192 .f32} {w kk ic : Vec Ideal S1x192x64 .bf16}
  {S : FVec Ideal S192x64x64 .f32} {Y : FVec Ideal S192x64x8192 .f32}
  {n : Fin 192} {rR kR vR wR kkR icR : Fin 64 → ℝ} {rsR ksR vsR : ℝ} {s : Fin 64 → Fin 64 → ℝ}

/-- The state after a token, on reals. -/
def tokR (kR vR wR kkR icR : Fin 64 → ℝ) (ksR vsR : ℝ) (s : Fin 64 → Fin 64 → ℝ) : Fin 64 → Fin 64 → ℝ := fun i e =>
  s i e * Real.exp (-Real.exp (wR e)) + (∑ f, s i f * -kkR f) * (kkR e * icR e) + vR i * vsR * (kR e * ksR)

/-- The scaled receptance of a token. -/
theorem scaled6 (h : ∀ d, r (ix3 0 n d) = ((rR d : ℝ) : EReal)) (hs : rs (ix2 0 n) = ((rsR : ℝ) : EReal)) (d : Fin 64) :
    k0_pay6 r rs (ix2 n d) = ((rR d * rsR : ℝ) : EReal) := by
  pointwise [k0_pay6]; rw [EReal.coe_mul, ← h, ← hs]
/-- The scaled key of a token. -/
theorem scaled7 (h : ∀ d, r (ix3 0 n d) = ((rR d : ℝ) : EReal)) (hs : rs (ix2 0 n) = ((rsR : ℝ) : EReal)) (d : Fin 64) :
    k0_pay7 r rs (ix2 n d) = ((rR d * rsR : ℝ) : EReal) := by
  pointwise [k0_pay7]; rw [EReal.coe_mul, ← h, ← hs]
/-- The scaled value of a token. -/
theorem scaled8 (h : ∀ d, r (ix3 0 n d) = ((rR d : ℝ) : EReal)) (hs : rs (ix2 0 n) = ((rsR : ℝ) : EReal)) (d : Fin 64) :
    k0_pay8 r rs (ix2 n d) = ((rR d * rsR : ℝ) : EReal) := by
  pointwise [k0_pay8]; rw [EReal.coe_mul, ← h, ← hs]
/-- The decay of a token. -/
theorem decay9 (h : ∀ d, w (ix3 0 n d) = ((wR d : ℝ) : EReal)) (d : Fin 64) :
    k0_pay9 w (ix2 n d) = ((Real.exp (-Real.exp (wR d)) : ℝ) : EReal) := by
  pointwise [k0_pay9]; rw [h, exp_coe, zsub, exp_coe]
/-- The removal direction of a token. -/
theorem key10 (h : ∀ d, kk (ix3 0 n d) = ((kkR d : ℝ) : EReal)) (d : Fin 64) :
    k0_pay10 kk (ix2 n d) = ((kkR d : ℝ) : EReal) := by
  pointwise [k0_pay10]; exact h d
/-- The removal direction, negated. -/
theorem neg11 (h : ∀ d, kk (ix3 0 n d) = ((kkR d : ℝ) : EReal)) (d : Fin 64) :
    k0_pay11 kk (ix2 n d) = ((-kkR d : ℝ) : EReal) := by
  pointwise [k0_pay11]; rw [key10 h, zsub]

/-- The next state. -/
theorem state3 {a b c d f : FVec Ideal S192x64 .f32} {aR bR cR dR fR : Fin 64 → ℝ}
    (ha : ∀ e, a (ix2 n e) = ((aR e : ℝ) : EReal)) (hb : ∀ e, b (ix2 n e) = ((bR e : ℝ) : EReal)) (hc : ∀ e, c (ix2 n e) = ((cR e : ℝ) : EReal))
    (hd : ∀ e, d (ix2 n e) = ((dR e : ℝ) : EReal)) (hf : ∀ e, f (ix2 n e) = ((fR e : ℝ) : EReal)) (hi : ∀ e, ic (ix3 0 n e) = ((icR e : ℝ) : EReal))
    (hS : ∀ i e, S (ix3 n i e) = ((s i e : ℝ) : EReal)) (i e : Fin 64) :
    k0_pay3 S a b c d f ic (ix3 n i e) = ((s i e * cR e + (∑ g, s i g * fR g) * (dR e * icR e) + bR i * aR e : ℝ) : EReal) := by
  pointwise [k0_pay3]
  simp only [ha, hb, hc, hd, hf, hi, hS]
  simp only [← EReal.coe_mul, coe_sum, ← EReal.coe_add]

/-- The collected results after a token. -/
theorem result4 {a b c d f g : FVec Ideal S192x64 .f32} {gR : Fin 64 → ℝ} {s' : Fin 64 → Fin 64 → ℝ} (q : BitVec 32)
    (hg : ∀ e, g (ix2 n e) = ((gR e : ℝ) : EReal))
    (hS : ∀ i e, k0_pay3 S a b c d f ic (ix3 n i e) = ((s' i e : ℝ) : EReal)) (i : Fin 64) (t : Fin 8192) :
    k0_pay4 S Y q g a b c d f ic (ix3 n i t) = if BitVec.ofNat 32 t.val = q then ((∑ e, s' i e * gR e : ℝ) : EReal) else Y (ix3 n i t) := by
  pointwise [k0_pay4]
  simp only [hS, hg]
  rw [coe_sel]
  simp only [← EReal.coe_mul, coe_sum]

end Cert.ReferenceIdeal.Loop

end
-- ==== Proof.RefRun.lean ====
/- The reference's loop on reals: the recurrence, token by token. -/
module

public import proofs.«01_k».proof.Proof.RefSem
public import proofs.«01_k».proof.Proof.Fold
public import Idealize.ShloMosaic.Lib.WordArith.Masks

@[expose] public section

set_option maxRecDepth 16384

noncomputable section

namespace Cert.ReferenceIdeal.Loop

open Idealize.ShloMosaic Idealize.ShloMosaic.TcCoe Idealize.SL.Sem Cert.ReferenceIdeal Cert.ReferenceIdeal.Gen Wkv
open Cert.KernelIdeal.Head (Ops)

/-- The loop runs once per token. -/
theorem trips_eq : k0_t1_loop.trips = 8192 := by decide +kernel

/-- The token of a trip. -/
def tkn (k : Fin k0_t1_loop.trips) : Fin 8192 := ⟨k.val, trips_eq ▸ k.isLt⟩

/-- The loop counter is the token. -/
theorem iv_toNat (k : Fin k0_t1_loop.trips) : (Scf.iv 0#32 1#32 k.val).toNat = k.val :=
  WordArith.toNat_iv_zero_one _ (by have := (tkn k).isLt; have : k.val < 8192 := this; omega)

/-- Where a trip reads a tall array. -/
theorem off1 (k : Fin k0_t1_loop.trips) : k0_off1 k = ![k.val, 0, 0] := by
  show ![(Scf.iv 0#32 1#32 k.val).toNat, 0, 0] = _
  rw [iv_toNat]
/-- Where a trip reads a scale array. -/
theorem off2 (k : Fin k0_t1_loop.trips) : k0_off2 k = ![k.val, 0] := by
  show ![(Scf.iv 0#32 1#32 k.val).toNat, 0] = _
  rw [iv_toNat]

/-- The entries of one token of a tall array. -/
theorem idxT (k : Fin k0_t1_loop.trips) (n : Fin 192) (d : Fin 64) : (rcT k).toLoadRect.idx (ix3 0 n d) = ix3 (tkn k) n d := by
  funext a; fin_cases a
  · apply Fin.ext; show k0_off1 k 0 + 1 * 0 = k.val; rw [off1]; show k.val + 1 * 0 = _; omega
  · apply Fin.ext; show k0_off1 k 1 + 1 * n.val = n.val; rw [off1]; show 0 + 1 * n.val = _; omega
  · apply Fin.ext; show k0_off1 k 2 + 1 * d.val = d.val; rw [off1]; show 0 + 1 * d.val = _; omega
/-- The entries of one token of a scale array. -/
theorem idxU (k : Fin k0_t1_loop.trips) (n : Fin 192) : (rcU k).toLoadRect.idx (ix2 0 n) = ix2 (tkn k) n := by
  funext a; fin_cases a
  · apply Fin.ext; show k0_off2 k 0 + 1 * 0 = k.val; rw [off2]; show k.val + 1 * 0 = _; omega
  · apply Fin.ext; show k0_off2 k 1 + 1 * n.val = n.val; rw [off2]; show 0 + 1 * n.val = _; omega

/-- A load of one token of a tall array. -/
theorem ldT_apply {e : EltTy} (M : Memref sig .tc .vmem S8192x192x64 e) (hM : M.IsWhole) (x : Vec Ideal S8192x192x64 e) (k : Fin k0_t1_loop.trips) (n : Fin 192) (d : Fin 64) :
    ldT M hM x k (ix3 0 n d) = x (ix3 (tkn k) n d) :=
  (hM.readAt_unread x (rcT k).toLoadRect (ix3 0 n d)).trans (congrArg x (idxT k n d))
/-- A load of one token of a scale array. -/
theorem ldU_apply {e : EltTy} (M : Memref sig .tc .vmem S8192x192 e) (hM : M.IsWhole) (x : Vec Ideal S8192x192 e) (k : Fin k0_t1_loop.trips) (n : Fin 192) :
    ldU M hM x k (ix2 0 n) = x (ix2 (tkn k) n) :=
  (hM.readAt_unread x (rcU k).toLoadRect (ix2 0 n)).trans (congrArg x (idxU k n))

/-- The arrays hold the operands of every head and token. -/
structure Given (x0 x1 x2 : Vec Ideal S8192x192x64 .fp8e4m3) (x3 x4 x5 : Vec Ideal S8192x192 .f32) (x6 x7 x8 : Vec Ideal S8192x192x64 .bf16)
    (x9 : Vec Ideal S192x64x64 .f32) (O : ℕ → Ops) (S0 : ℕ → Fin 64 → Fin 64 → ℝ) : Prop where
  r : ∀ (t : Fin 8192) (n : Fin 192) (d : Fin 64), x0 (ix3 t n d) = (((O n.val).r d t.val : ℝ) : EReal)
  k : ∀ (t : Fin 8192) (n : Fin 192) (d : Fin 64), x1 (ix3 t n d) = (((O n.val).k d t.val : ℝ) : EReal)
  v : ∀ (t : Fin 8192) (n : Fin 192) (d : Fin 64), x2 (ix3 t n d) = (((O n.val).v d t.val : ℝ) : EReal)
  rs : ∀ (t : Fin 8192) (n : Fin 192), x3 (ix2 t n) = (((O n.val).rs t.val : ℝ) : EReal)
  ks : ∀ (t : Fin 8192) (n : Fin 192), x4 (ix2 t n) = (((O n.val).ks t.val : ℝ) : EReal)
  vs : ∀ (t : Fin 8192) (n : Fin 192), x5 (ix2 t n) = (((O n.val).vs t.val : ℝ) : EReal)
  w : ∀ (t : Fin 8192) (n : Fin 192) (d : Fin 64), x6 (ix3 t n d) = (((O n.val).w d t.val : ℝ) : EReal)
  kk : ∀ (t : Fin 8192) (n : Fin 192) (d : Fin 64), x7 (ix3 t n d) = (((O n.val).kk d t.val : ℝ) : EReal)
  ic : ∀ (t : Fin 8192) (n : Fin 192) (d : Fin 64), x8 (ix3 t n d) = (((O n.val).ic d t.val : ℝ) : EReal)
  s : ∀ (n : Fin 192) (i e : Fin 64), x9 (ix3 n i e) = ((S0 n.val i e : ℝ) : EReal)

/-- The reference's token is the recurrence's. -/
theorem tokR_eq (O : Ops) (s : Fin 64 → Fin 64 → ℝ) (t : ℕ) :
    (fun i e => s i e * Real.exp (-Real.exp (O.w e t)) + (∑ g, s i g * -O.kk g t) * (O.kk e t * O.ic e t) + O.v i t * O.vs t * (O.k e t * O.ks t))
      = tok O.w O.kk O.ic O.kr O.v s t := by
  funext i e
  unfold tok Ops.kr
  ring

/-- The recurrence takes one more token. -/
theorem run_succ (O : Ops) (s : Fin 64 → Fin 64 → ℝ) (t : ℕ) : O.run s 0 (t + 1) = tok O.w O.kk O.ic O.kr O.v (O.run s 0 t) t := by
  unfold Ops.run; rw [run, Nat.zero_add]

/-- The carried pair before each trip. -/
theorem carry_holds {O : ℕ → Ops} {S0 : ℕ → Fin 64 → Fin 64 → ℝ} (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec Ideal S8192x192x64 .fp8e4m3) (x1 : Vec Ideal S8192x192x64 .fp8e4m3) (x2 : Vec Ideal S8192x192x64 .fp8e4m3) (x3 : Vec Ideal S8192x192 .f32) (x4 : Vec Ideal S8192x192 .f32) (x5 : Vec Ideal S8192x192 .f32) (x6 : Vec Ideal S8192x192x64 .bf16) (x7 : Vec Ideal S8192x192x64 .bf16) (x8 : Vec Ideal S8192x192x64 .bf16) (x9 : Vec Ideal S192x64x64 .f32) (G : Given x0 x1 x2 x3 x4 x5 x6 x7 x8 x9 O S0) (j : ℕ) (hj : j ≤ 8192) (n : Fin 192) :
    (∀ i e : Fin 64, (carry (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 j).1 (ix3 n i e) = (((O n.val).run (S0 n.val) 0 j i e : ℝ) : EReal)) ∧
    (∀ (i : Fin 64) (t : Fin 8192), t.val < j → (carry (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 j).2 (ix3 n i t) = (((O n.val).res (S0 n.val) 0 t.val i : ℝ) : EReal)) := by
  induction j with
  | zero =>
    refine ⟨fun i e => ?_, fun i t h => absurd h (by omega)⟩
    show k0_pay1 (View.readAt (Elt Ideal) arg9.view (Rect.unit (s := S192x64x64) ![0, 0, 0] S192x64x64.size inb_S192x64x64_S192x64x64_0_0_0).toLoadRect (harg9.unread x9)) (ix3 n i e) = _
    pointwise [k0_pay1]
    refine (harg9.readAt_unread x9 (Rect.unit (s := S192x64x64) ![0, 0, 0] S192x64x64.size inb_S192x64x64_S192x64x64_0_0_0).toLoadRect (ix3 n i e)).trans ?_
    refine Eq.trans (congrArg x9 ?_) (G.s n i e)
    funext a; fin_cases a <;> · apply Fin.ext; show 0 + 1 * _ = _; omega
  | succ j ih =>
    obtain ⟨hS, hY⟩ := ih (by omega)
    have hk : j < k0_t1_loop.trips := by rw [trips_eq]; omega
    have e1 := (carry_succ (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 ⟨j, hk⟩).trans (trip_eq (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 ⟨j, hk⟩ _)
    dsimp only at e1
    rw [e1]
    have T3 := fun (i e : Fin 64) => state3 (n := n) (S := (carry (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 j).1) (s := (O n.val).run (S0 n.val) 0 j)
      (ha := scaled7 (n := n) (fun d => (ldT_apply arg1 harg1 x1 ⟨j, hk⟩ n d).trans (G.k _ n d)) ((ldU_apply arg4 harg4 x4 ⟨j, hk⟩ n).trans (G.ks _ n)))
      (hb := scaled8 (n := n) (fun d => (ldT_apply arg2 harg2 x2 ⟨j, hk⟩ n d).trans (G.v _ n d)) ((ldU_apply arg5 harg5 x5 ⟨j, hk⟩ n).trans (G.vs _ n)))
      (hc := decay9 (n := n) (fun d => (ldT_apply arg6 harg6 x6 ⟨j, hk⟩ n d).trans (G.w _ n d)))
      (hd := key10 (n := n) (fun d => (ldT_apply arg7 harg7 x7 ⟨j, hk⟩ n d).trans (G.kk _ n d)))
      (hf := neg11 (n := n) (fun d => (ldT_apply arg7 harg7 x7 ⟨j, hk⟩ n d).trans (G.kk _ n d)))
      (hi := fun d => (ldT_apply arg8 harg8 x8 ⟨j, hk⟩ n d).trans (G.ic _ n d))
      (hS := hS) (i := i) (e := e)
    have T : ∀ i e : Fin 64, k0_pay3 (carry (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 j).1 (k0_pay7 (ldT arg1 harg1 x1 ⟨j, hk⟩) (ldU arg4 harg4 x4 ⟨j, hk⟩))
        (k0_pay8 (ldT arg2 harg2 x2 ⟨j, hk⟩) (ldU arg5 harg5 x5 ⟨j, hk⟩)) (k0_pay9 (ldT arg6 harg6 x6 ⟨j, hk⟩)) (k0_pay10 (ldT arg7 harg7 x7 ⟨j, hk⟩))
        (k0_pay11 (ldT arg7 harg7 x7 ⟨j, hk⟩)) (ldT arg8 harg8 x8 ⟨j, hk⟩) (ix3 n i e) = (((O n.val).run (S0 n.val) 0 (j + 1) i e : ℝ) : EReal) := fun i e => by
      rw [run_succ, ← tokR_eq]; exact T3 i e
    refine ⟨T, fun i t ht => ?_⟩
    have Y4 := result4 (n := n) (Y := (carry (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 j).2) (Scf.iv (0#32) (1#32) j)
      (scaled6 (n := n) (fun d => (ldT_apply arg0 harg0 x0 ⟨j, hk⟩ n d).trans (G.r _ n d)) ((ldU_apply arg3 harg3 x3 ⟨j, hk⟩ n).trans (G.rs _ n))) T i t
    refine Y4.trans ?_
    have hw : BitVec.ofNat 32 t.val = Scf.iv (0#32) (1#32) j ↔ t.val = j := by
      rw [← BitVec.toNat_inj, iv_toNat ⟨j, hk⟩, BitVec.toNat_ofNat, Nat.mod_eq_of_lt (by have := t.isLt; omega)]
    by_cases h : t.val = j
    · rw [if_pos (hw.2 h)]
      congr 1
      unfold Ops.res res Ops.rr
      refine Finset.sum_congr rfl fun e _ => ?_
      rw [Nat.zero_add, h]; rfl
    · rw [if_neg (fun q => h (hw.1 q))]
      exact hY i t (by omega)

/-- The whole box of the result. -/
theorem emb10 (i : S192x64x8192.Idx) : (Rect.unit (s := S192x64x8192) ![0, 0, 0] S192x64x8192.size inb_S192x64x8192_S192x64x8192_0_0_0).idx i = i := by
  funext a; fin_cases a <;> · apply Fin.ext; show 0 + 1 * _ = _; omega
/-- The whole box of the final state. -/
theorem emb11 (i : S192x64x64.Idx) : (Rect.unit (s := S192x64x64) ![0, 0, 0] S192x64x64.size inb_S192x64x64_S192x64x64_0_0_0).idx i = i := by
  funext a; fin_cases a <;> · apply Fin.ext; show 0 + 1 * _ = _; omega

/-- One whole store gives the result. -/
theorem canon10 (w : Vec Ideal S192x64x8192 .bf16) (y : S192x64x8192.Idx) :
    View.canon [(⟨Rect.unit (s := S192x64x8192) ![0, 0, 0] S192x64x8192.size inb_S192x64x8192_S192x64x8192_0_0_0, w⟩ : View.Piece (Elt Ideal) S192x64x8192 .bf16)] y = w y := by
  have h1 := View.canon_cons_emb (Val := Elt Ideal) (Rect.unit (s := S192x64x8192) ![0, 0, 0] S192x64x8192.size inb_S192x64x8192_S192x64x8192_0_0_0) w [] y
  rw [show (Rect.unit (s := S192x64x8192) ![0, 0, 0] S192x64x8192.size inb_S192x64x8192_S192x64x8192_0_0_0).emb y = y from emb10 _] at h1
  exact h1
/-- One whole store gives the final state. -/
theorem canon11 (w : Vec Ideal S192x64x64 .f32) (y : S192x64x64.Idx) :
    View.canon [(⟨Rect.unit (s := S192x64x64) ![0, 0, 0] S192x64x64.size inb_S192x64x64_S192x64x64_0_0_0, w⟩ : View.Piece (Elt Ideal) S192x64x64 .f32)] y = w y := by
  have h1 := View.canon_cons_emb (Val := Elt Ideal) (Rect.unit (s := S192x64x64) ![0, 0, 0] S192x64x64.size inb_S192x64x64_S192x64x64_0_0_0) w [] y
  rw [show (Rect.unit (s := S192x64x64) ![0, 0, 0] S192x64x64.size inb_S192x64x64_S192x64x64_0_0_0).emb y = y from emb11 _] at h1
  exact h1
/-- That store covers the result. -/
theorem mem10 (w : Vec Ideal S192x64x8192 .bf16) (y : S192x64x8192.Idx) :
    ∃ p ∈ [(⟨Rect.unit (s := S192x64x8192) ![0, 0, 0] S192x64x8192.size inb_S192x64x8192_S192x64x8192_0_0_0, w⟩ : View.Piece (Elt Ideal) S192x64x8192 .bf16)], y ∈ p.1.set :=
  ⟨_, List.mem_singleton.2 rfl, by
    have := (Rect.unit (s := S192x64x8192) ![0, 0, 0] S192x64x8192.size inb_S192x64x8192_S192x64x8192_0_0_0).idx_mem y
    rwa [emb10] at this⟩
/-- That store covers the final state. -/
theorem mem11 (w : Vec Ideal S192x64x64 .f32) (y : S192x64x64.Idx) :
    ∃ p ∈ [(⟨Rect.unit (s := S192x64x64) ![0, 0, 0] S192x64x64.size inb_S192x64x64_S192x64x64_0_0_0, w⟩ : View.Piece (Elt Ideal) S192x64x64 .f32)], y ∈ p.1.set :=
  ⟨_, List.mem_singleton.2 rfl, by
    have := (Rect.unit (s := S192x64x64) ![0, 0, 0] S192x64x64.size inb_S192x64x64_S192x64x64_0_0_0).idx_mem y
    rwa [emb11] at this⟩

/-- The reference's results. -/
theorem out10 {O : ℕ → Ops} {S0 : ℕ → Fin 64 → Fin 64 → ℝ} (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec Ideal S8192x192x64 .fp8e4m3) (x1 : Vec Ideal S8192x192x64 .fp8e4m3) (x2 : Vec Ideal S8192x192x64 .fp8e4m3) (x3 : Vec Ideal S8192x192 .f32) (x4 : Vec Ideal S8192x192 .f32) (x5 : Vec Ideal S8192x192 .f32) (x6 : Vec Ideal S8192x192x64 .bf16) (x7 : Vec Ideal S8192x192x64 .bf16) (x8 : Vec Ideal S8192x192x64 .bf16) (x9 : Vec Ideal S192x64x64 .f32) (G : Given x0 x1 x2 x3 x4 x5 x6 x7 x8 x9 O S0) (n : Fin 192) (i : Fin 64) (t : Fin 8192) :
    out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (ix3 n i t) = (((O n.val).res (S0 n.val) 0 t.val i : ℝ) : EReal) := by
  unfold out0_A_10
  rw [pieces10]
  refine (View.read_writes_apply_eq_canon _ _ _ _ (mem10 _ _)).trans ((canon10 _ _).trans ?_)
  have := (carry_holds c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 G 8192 le_rfl n).2 i t t.isLt
  rw [trips_eq]
  pointwise [k0_pay5]
  exact this
/-- The reference's final state. -/
theorem out11 {O : ℕ → Ops} {S0 : ℕ → Fin 64 → Fin 64 → ℝ} (c : Dev nD) (arg0 : Memref sig .tc .vmem S8192x192x64 .fp8e4m3) (harg0 : arg0.IsWhole) (arg1 : Memref sig .tc .vmem S8192x192x64 .fp8e4m3) (harg1 : arg1.IsWhole) (arg2 : Memref sig .tc .vmem S8192x192x64 .fp8e4m3) (harg2 : arg2.IsWhole) (arg3 : Memref sig .tc .vmem S8192x192 .f32) (harg3 : arg3.IsWhole) (arg4 : Memref sig .tc .vmem S8192x192 .f32) (harg4 : arg4.IsWhole) (arg5 : Memref sig .tc .vmem S8192x192 .f32) (harg5 : arg5.IsWhole) (arg6 : Memref sig .tc .vmem S8192x192x64 .bf16) (harg6 : arg6.IsWhole) (arg7 : Memref sig .tc .vmem S8192x192x64 .bf16) (harg7 : arg7.IsWhole) (arg8 : Memref sig .tc .vmem S8192x192x64 .bf16) (harg8 : arg8.IsWhole) (arg9 : Memref sig .tc .vmem S192x64x64 .f32) (harg9 : arg9.IsWhole) (arg10 : Memref sig .tc .vmem S192x64x8192 .bf16) (harg10 : arg10.IsWhole) (arg11 : Memref sig .tc .vmem S192x64x64 .f32) (harg11 : arg11.IsWhole) (x0 : Vec Ideal S8192x192x64 .fp8e4m3) (x1 : Vec Ideal S8192x192x64 .fp8e4m3) (x2 : Vec Ideal S8192x192x64 .fp8e4m3) (x3 : Vec Ideal S8192x192 .f32) (x4 : Vec Ideal S8192x192 .f32) (x5 : Vec Ideal S8192x192 .f32) (x6 : Vec Ideal S8192x192x64 .bf16) (x7 : Vec Ideal S8192x192x64 .bf16) (x8 : Vec Ideal S8192x192x64 .bf16) (x9 : Vec Ideal S192x64x64 .f32) (G : Given x0 x1 x2 x3 x4 x5 x6 x7 x8 x9 O S0) (n : Fin 192) (i e : Fin 64) :
    out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (ix3 n i e) = (((O n.val).run (S0 n.val) 0 8192 i e : ℝ) : EReal) := by
  unfold out0_A_11
  rw [pieces11]
  refine (View.read_writes_apply_eq_canon _ _ _ _ (mem11 _ _)).trans ((canon11 _ _).trans ?_)
  rw [trips_eq]
  exact (carry_holds c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 G 8192 le_rfl n).1 i e

end Cert.ReferenceIdeal.Loop

end
-- ==== Proof.RefWhole.lean ====
/- Every window of the reference is its whole array. -/
module

public import proofs.«01_k».proof.Proof.RefRun
public import Idealize.ShloMosaic.Lib.Pipeline.ValueKit

@[expose] public section

set_option maxRecDepth 16384

noncomputable section

namespace Cert.ReferenceIdeal.Loop

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- Window 0 is its whole array. -/
theorem iblk0 (t : Fin cfg0.N) : (iblk m c 0 t : Vec Ideal S8192x192x64 .fp8e4m3) = (V m c main_v2 : Vec Ideal S8192x192x64 .fp8e4m3) := by
  unfold iblk
  exact Memref.read_access_unit_zero (Elt Ideal) main_v2
    (show (fun a => (win0_0.index t) a * main_v2.ty.shape.size a) = fun _ => 0 from
      funext fun a => by rw [show win0_0.index t a = 0 from rfl, Nat.zero_mul]) (fun a => by rw [show win0_0.index t a = 0 from rfl, Nat.zero_mul]; exact (Nat.zero_add _).le) _

/-- Window 1 is its whole array. -/
theorem iblk1 (t : Fin cfg0.N) : (iblk m c 1 t : Vec Ideal S8192x192x64 .fp8e4m3) = (V m c main_v5 : Vec Ideal S8192x192x64 .fp8e4m3) := by
  unfold iblk
  exact Memref.read_access_unit_zero (Elt Ideal) main_v5
    (show (fun a => (win0_1.index t) a * main_v5.ty.shape.size a) = fun _ => 0 from
      funext fun a => by rw [show win0_1.index t a = 0 from rfl, Nat.zero_mul]) (fun a => by rw [show win0_1.index t a = 0 from rfl, Nat.zero_mul]; exact (Nat.zero_add _).le) _

/-- Window 2 is its whole array. -/
theorem iblk2 (t : Fin cfg0.N) : (iblk m c 2 t : Vec Ideal S8192x192x64 .fp8e4m3) = (V m c main_v8 : Vec Ideal S8192x192x64 .fp8e4m3) := by
  unfold iblk
  exact Memref.read_access_unit_zero (Elt Ideal) main_v8
    (show (fun a => (win0_2.index t) a * main_v8.ty.shape.size a) = fun _ => 0 from
      funext fun a => by rw [show win0_2.index t a = 0 from rfl, Nat.zero_mul]) (fun a => by rw [show win0_2.index t a = 0 from rfl, Nat.zero_mul]; exact (Nat.zero_add _).le) _

/-- Window 3 is its whole array. -/
theorem iblk3 (t : Fin cfg0.N) : (iblk m c 3 t : Vec Ideal S8192x192 .f32) = (V m c main_v10 : Vec Ideal S8192x192 .f32) := by
  unfold iblk
  exact Memref.read_access_unit_zero (Elt Ideal) main_v10
    (show (fun a => (win0_3.index t) a * main_v10.ty.shape.size a) = fun _ => 0 from
      funext fun a => by rw [show win0_3.index t a = 0 from rfl, Nat.zero_mul]) (fun a => by rw [show win0_3.index t a = 0 from rfl, Nat.zero_mul]; exact (Nat.zero_add _).le) _

/-- Window 4 is its whole array. -/
theorem iblk4 (t : Fin cfg0.N) : (iblk m c 4 t : Vec Ideal S8192x192 .f32) = (V m c main_v12 : Vec Ideal S8192x192 .f32) := by
  unfold iblk
  exact Memref.read_access_unit_zero (Elt Ideal) main_v12
    (show (fun a => (win0_4.index t) a * main_v12.ty.shape.size a) = fun _ => 0 from
      funext fun a => by rw [show win0_4.index t a = 0 from rfl, Nat.zero_mul]) (fun a => by rw [show win0_4.index t a = 0 from rfl, Nat.zero_mul]; exact (Nat.zero_add _).le) _

/-- Window 5 is its whole array. -/
theorem iblk5 (t : Fin cfg0.N) : (iblk m c 5 t : Vec Ideal S8192x192 .f32) = (V m c main_v14 : Vec Ideal S8192x192 .f32) := by
  unfold iblk
  exact Memref.read_access_unit_zero (Elt Ideal) main_v14
    (show (fun a => (win0_5.index t) a * main_v14.ty.shape.size a) = fun _ => 0 from
      funext fun a => by rw [show win0_5.index t a = 0 from rfl, Nat.zero_mul]) (fun a => by rw [show win0_5.index t a = 0 from rfl, Nat.zero_mul]; exact (Nat.zero_add _).le) _

/-- Window 6 is its whole array. -/
theorem iblk6 (t : Fin cfg0.N) : (iblk m c 6 t : Vec Ideal S8192x192x64 .bf16) = (V m c main_v16 : Vec Ideal S8192x192x64 .bf16) := by
  unfold iblk
  exact Memref.read_access_unit_zero (Elt Ideal) main_v16
    (show (fun a => (win0_6.index t) a * main_v16.ty.shape.size a) = fun _ => 0 from
      funext fun a => by rw [show win0_6.index t a = 0 from rfl, Nat.zero_mul]) (fun a => by rw [show win0_6.index t a = 0 from rfl, Nat.zero_mul]; exact (Nat.zero_add _).le) _

/-- Window 7 is its whole array. -/
theorem iblk7 (t : Fin cfg0.N) : (iblk m c 7 t : Vec Ideal S8192x192x64 .bf16) = (V m c main_v18 : Vec Ideal S8192x192x64 .bf16) := by
  unfold iblk
  exact Memref.read_access_unit_zero (Elt Ideal) main_v18
    (show (fun a => (win0_7.index t) a * main_v18.ty.shape.size a) = fun _ => 0 from
      funext fun a => by rw [show win0_7.index t a = 0 from rfl, Nat.zero_mul]) (fun a => by rw [show win0_7.index t a = 0 from rfl, Nat.zero_mul]; exact (Nat.zero_add _).le) _

/-- Window 8 is its whole array. -/
theorem iblk8 (t : Fin cfg0.N) : (iblk m c 8 t : Vec Ideal S8192x192x64 .bf16) = (V m c main_v20 : Vec Ideal S8192x192x64 .bf16) := by
  unfold iblk
  exact Memref.read_access_unit_zero (Elt Ideal) main_v20
    (show (fun a => (win0_8.index t) a * main_v20.ty.shape.size a) = fun _ => 0 from
      funext fun a => by rw [show win0_8.index t a = 0 from rfl, Nat.zero_mul]) (fun a => by rw [show win0_8.index t a = 0 from rfl, Nat.zero_mul]; exact (Nat.zero_add _).le) _

/-- Window 9 is its whole array. -/
theorem iblk9 (t : Fin cfg0.N) : (iblk m c 9 t : Vec Ideal S192x64x64 .f32) = (V m c main_v21 : Vec Ideal S192x64x64 .f32) := by
  unfold iblk
  exact Memref.read_access_unit_zero (Elt Ideal) main_v21
    (show (fun a => (win0_9.index t) a * main_v21.ty.shape.size a) = fun _ => 0 from
      funext fun a => by rw [show win0_9.index t a = 0 from rfl, Nat.zero_mul]) (fun a => by rw [show win0_9.index t a = 0 from rfl, Nat.zero_mul]; exact (Nat.zero_add _).le) _

end Cert.ReferenceIdeal.Loop

end
-- ==== Proof.RefHostA.lean ====
/- The arrays the reference reads, windows 0 to 2, as entries of the arguments. -/
module

public import proofs.«01_k».proof.Proof.RefRun
public import Idealize.ShloMosaic.Lib.Pipeline.ValueKit

@[expose] public section

set_option maxRecDepth 16384

noncomputable section

namespace Cert.ReferenceIdeal.Loop

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The array of window 0 as an argument. -/
theorem V2 (t : Fin 8192) (n : Fin 192) (d : Fin 64) :
    (V m c main_v2 : Vec Ideal S8192x192x64 .fp8e4m3) (ix3 t n d)
      = (bitcastToFloat (F := Ideal) .fp8e4m3 (m ((c : Thread nD τ).loc main_arg0) : Vec Ideal S12x16x8192x64 .i8) (ix4 ⟨n.val / 16, by omega⟩ ⟨n.val % 16, by omega⟩ t d) : EReal) := by
  entry_read
  pointwise []

/-- The array of window 1 as an argument. -/
theorem V5 (t : Fin 8192) (n : Fin 192) (d : Fin 64) :
    (V m c main_v5 : Vec Ideal S8192x192x64 .fp8e4m3) (ix3 t n d)
      = (bitcastToFloat (F := Ideal) .fp8e4m3 (m ((c : Thread nD τ).loc main_arg1) : Vec Ideal S12x16x8192x64 .i8) (ix4 ⟨n.val / 16, by omega⟩ ⟨n.val % 16, by omega⟩ t d) : EReal) := by
  entry_read
  pointwise []

/-- The array of window 2 as an argument. -/
theorem V8 (t : Fin 8192) (n : Fin 192) (d : Fin 64) :
    (V m c main_v8 : Vec Ideal S8192x192x64 .fp8e4m3) (ix3 t n d)
      = (bitcastToFloat (F := Ideal) .fp8e4m3 (m ((c : Thread nD τ).loc main_arg2) : Vec Ideal S12x16x8192x64 .i8) (ix4 ⟨n.val / 16, by omega⟩ ⟨n.val % 16, by omega⟩ t d) : EReal) := by
  entry_read
  pointwise []

end Cert.ReferenceIdeal.Loop

end
-- ==== Proof.RefHostB.lean ====
/- The arrays the reference reads, windows 3 to 9, as entries of the arguments. -/
module

public import proofs.«01_k».proof.Proof.RefRun
public import Idealize.ShloMosaic.Lib.Pipeline.ValueKit

@[expose] public section

set_option maxRecDepth 16384

noncomputable section

namespace Cert.ReferenceIdeal.Loop

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The array of window 3 as an argument. -/
theorem V10 (t : Fin 8192) (n : Fin 192) :
    (V m c main_v10 : Vec Ideal S8192x192 .f32) (ix2 t n)
      = ((m ((c : Thread nD τ).loc main_arg3) : Vec Ideal S12x16x8192 .f32) (ix3 ⟨n.val / 16, by omega⟩ ⟨n.val % 16, by omega⟩ t) : EReal) := by
  entry_read
  pointwise []

/-- The array of window 4 as an argument. -/
theorem V12 (t : Fin 8192) (n : Fin 192) :
    (V m c main_v12 : Vec Ideal S8192x192 .f32) (ix2 t n)
      = ((m ((c : Thread nD τ).loc main_arg4) : Vec Ideal S12x16x8192 .f32) (ix3 ⟨n.val / 16, by omega⟩ ⟨n.val % 16, by omega⟩ t) : EReal) := by
  entry_read
  pointwise []

/-- The array of window 5 as an argument. -/
theorem V14 (t : Fin 8192) (n : Fin 192) :
    (V m c main_v14 : Vec Ideal S8192x192 .f32) (ix2 t n)
      = ((m ((c : Thread nD τ).loc main_arg5) : Vec Ideal S12x16x8192 .f32) (ix3 ⟨n.val / 16, by omega⟩ ⟨n.val % 16, by omega⟩ t) : EReal) := by
  entry_read
  pointwise []

/-- The array of window 6 as an argument. -/
theorem V16 (t : Fin 8192) (n : Fin 192) (d : Fin 64) :
    (V m c main_v16 : Vec Ideal S8192x192x64 .bf16) (ix3 t n d)
      = ((m ((c : Thread nD τ).loc main_arg6) : Vec Ideal S12x16x8192x64 .bf16) (ix4 ⟨n.val / 16, by omega⟩ ⟨n.val % 16, by omega⟩ t d) : EReal) := by
  entry_read
  pointwise []

/-- The array of window 7 as an argument. -/
theorem V18 (t : Fin 8192) (n : Fin 192) (d : Fin 64) :
    (V m c main_v18 : Vec Ideal S8192x192x64 .bf16) (ix3 t n d)
      = ((m ((c : Thread nD τ).loc main_arg7) : Vec Ideal S12x16x8192x64 .bf16) (ix4 ⟨n.val / 16, by omega⟩ ⟨n.val % 16, by omega⟩ t d) : EReal) := by
  entry_read
  pointwise []

/-- The array of window 8 as an argument. -/
theorem V20 (t : Fin 8192) (n : Fin 192) (d : Fin 64) :
    (V m c main_v20 : Vec Ideal S8192x192x64 .bf16) (ix3 t n d)
      = ((m ((c : Thread nD τ).loc main_arg8) : Vec Ideal S12x16x8192x64 .bf16) (ix4 ⟨n.val / 16, by omega⟩ ⟨n.val % 16, by omega⟩ t d) : EReal) := by
  entry_read
  pointwise []

/-- The array of window 9 as an argument. -/
theorem V21 (n : Fin 192) (i e : Fin 64) :
    (V m c main_v21 : Vec Ideal S192x64x64 .f32) (ix3 n i e)
      = ((m ((c : Thread nD τ).loc main_arg9) : Vec Ideal S12x16x64x64 .f32) (ix4 ⟨n.val / 16, by omega⟩ ⟨n.val % 16, by omega⟩ i e) : EReal) := by
  entry_read
  pointwise []

end Cert.ReferenceIdeal.Loop

end
-- ==== Proof.RefOut.lean ====
/- What the reference is given is the data of the arguments, and what its two results hold. -/
module

public import proofs.«01_k».proof.Proof.RefWhole
public import proofs.«01_k».proof.Proof.RefHostA
public import proofs.«01_k».proof.Proof.RefHostB
public import proofs.«01_k».proof.Proof.Data
public import proofs.«01_k».proof.Proof.Gen.ReferenceIdeal.Value

@[expose] public section

set_option maxRecDepth 16384

noncomputable section

namespace Cert.ReferenceIdeal.Loop

open Idealize.ShloMosaic Idealize.ShloMosaic.TcCoe Idealize.SL.Sem Cert.ReferenceIdeal Cert.ReferenceIdeal.Gen Cert.Data

variable (m : (ℓ : Loc nD τ sig) → Buf (Elt Ideal) ℓ) (c : Dev nD)

/-- The one grid point. -/
def t0 : Fin cfg0.N := ⟨0, by rw [show cfg0.N = 1 from rfl]; exact Nat.one_pos⟩

/-- The reference's windows hold the operands of every head and every token. -/
theorem given (H : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (t : Fin cfg0.N) :
    Given (iblk m c 0 t) (iblk m c 1 t) (iblk m c 2 t) (iblk m c 3 t) (iblk m c 4 t) (iblk m c 5 t) (iblk m c 6 t) (iblk m c 7 t) (iblk m c 8 t) (iblk m c 9 t)
      (opsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (atS (m ((c : Thread nD τ).loc main_arg9))) where
  r := fun u n d => (congrFun (iblk0 m c t) (ix3 u n d)).trans ((V2 m c u n d).trans (at4_eq H.r n d u))
  k := fun u n d => (congrFun (iblk1 m c t) (ix3 u n d)).trans ((V5 m c u n d).trans (at4_eq H.k n d u))
  v := fun u n d => (congrFun (iblk2 m c t) (ix3 u n d)).trans ((V8 m c u n d).trans (at4_eq H.v n d u))
  rs := fun u n => (congrFun (iblk3 m c t) (ix2 u n)).trans ((V10 m c u n).trans (at3_eq H.rs n u))
  ks := fun u n => (congrFun (iblk4 m c t) (ix2 u n)).trans ((V12 m c u n).trans (at3_eq H.ks n u))
  vs := fun u n => (congrFun (iblk5 m c t) (ix2 u n)).trans ((V14 m c u n).trans (at3_eq H.vs n u))
  w := fun u n d => (congrFun (iblk6 m c t) (ix3 u n d)).trans ((V16 m c u n d).trans (at4_eq H.w n d u))
  kk := fun u n d => (congrFun (iblk7 m c t) (ix3 u n d)).trans ((V18 m c u n d).trans (at4_eq H.kk n d u))
  ic := fun u n d => (congrFun (iblk8 m c t) (ix3 u n d)).trans ((V20 m c u n d).trans (at4_eq H.ic n d u))
  s := fun n i e => (congrFun (iblk9 m c t) (ix3 n i e)).trans ((V21 m c n i e).trans (atS_eq H.s n i e))

/-- The array of result 0 after the run is what the body left. -/
theorem arr10 : ((dats m 0 c).arrAt 10 cfg0.N : Vec Ideal S192x64x8192 .bf16)
    = out0_A_10 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (iblk m c 0 t0) (iblk m c 1 t0) (iblk m c 2 t0) (iblk m c 3 t0) (iblk m c 4 t0) (iblk m c 5 t0) (iblk m c 6 t0) (iblk m c 7 t0) (iblk m c 8 t0) (iblk m c 9 t0) := by
  have h := (Value.blocks10 m c t0 (flush0_10 t0)).trans (Value.flushed10_A m c t0)
  refine Eq.trans ?_ (h.trans ?_)
  · exact (Memref.read_access_unit_zero (Elt Ideal) main_v22_0
      (show (fun a => (win0_10.index t0) a * main_v22_0.ty.shape.size a) = fun _ => 0 from
        funext fun a => by rw [show win0_10.index t0 a = 0 from rfl, Nat.zero_mul])
      (fun a => by rw [show win0_10.index t0 a = 0 from rfl, Nat.zero_mul]; exact (Nat.zero_add _).le) _).symm
  · exact funext fun _ => rfl

/-- Result 0 of the reference, entry by entry. -/
theorem result0 (H : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (n : Fin 192) (i : Fin 64) (t : Fin 8192) :
    ((dats m 0 c).arrAt 10 cfg0.N : Vec Ideal S192x64x8192 .bf16) (ix3 n i t)
      = (((opsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n.val).res (atS (m ((c : Thread nD τ).loc main_arg9)) n.val) 0 t.val i : ℝ) : EReal) :=
  (congrFun (arr10 m c) (ix3 n i t)).trans (out10 (G := given m c H t0) (n := n) ..)

/-- The array of result 1 after the run is what the body left. -/
theorem arr11 : ((dats m 0 c).arrAt 11 cfg0.N : Vec Ideal S192x64x64 .f32)
    = out0_A_11 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (iblk m c 0 t0) (iblk m c 1 t0) (iblk m c 2 t0) (iblk m c 3 t0) (iblk m c 4 t0) (iblk m c 5 t0) (iblk m c 6 t0) (iblk m c 7 t0) (iblk m c 8 t0) (iblk m c 9 t0) := by
  have h := (Value.blocks11 m c t0 (flush0_11 t0)).trans (Value.flushed11_A m c t0)
  refine Eq.trans ?_ (h.trans ?_)
  · exact (Memref.read_access_unit_zero (Elt Ideal) main_v22_1
      (show (fun a => (win0_11.index t0) a * main_v22_1.ty.shape.size a) = fun _ => 0 from
        funext fun a => by rw [show win0_11.index t0 a = 0 from rfl, Nat.zero_mul])
      (fun a => by rw [show win0_11.index t0 a = 0 from rfl, Nat.zero_mul]; exact (Nat.zero_add _).le) _).symm
  · exact funext fun _ => rfl

/-- Result 1 of the reference, entry by entry. -/
theorem result1 (H : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (n : Fin 192) (i e : Fin 64) :
    ((dats m 0 c).arrAt 11 cfg0.N : Vec Ideal S192x64x64 .f32) (ix3 n i e)
      = (((opsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n.val).run (atS (m ((c : Thread nD τ).loc main_arg9)) n.val) 0 8192 i e : ℝ) : EReal) :=
  (congrFun (arr11 m c) (ix3 n i e)).trans (out11 (G := given m c H t0) (n := n) ..)

end Cert.ReferenceIdeal.Loop

end
-- ==== Proof.Finite.lean ====
/- The precondition, read: where it is all ones, every argument holds real numbers only. -/
module

public import proofs.«01_k».proof.Proof.Data
public import proofs.«01_k».proof.Pre_finite

@[expose] public section

set_option maxRecDepth 16384

noncomputable section

namespace Cert.Data

open Idealize.ShloMosaic

/-- A byte whose low seven bits are not all ones has an exponent below the top or a fraction below the top. -/
theorem not_nan : ∀ b : BitVec 8, (b.setWidth 32 &&& 127#32) ≠ 127#32 → ¬ ((b.extractLsb' 3 4).toNat = 15 ∧ (b.extractLsb' 0 3).toNat = 7) := by
  decide +kernel

/-- Such a byte stands for a real number. -/
theorem isReal_code (b : BitVec 8) (h : (b.setWidth 32 &&& 127#32) ≠ 127#32) : IsReal (Ideal.ofBits .fp8e4m3 b) := by
  show IsReal (Ideal.e4m3fn b)
  unfold Ideal.e4m3fn
  dsimp only
  rw [if_neg (not_nan b h)]
  split
  · exact isReal_coe _
  · exact isReal_coe _

/-- A number of magnitude below infinity is real. -/
theorem isReal_of_abs (x : EReal) (h : max x (-x) < ⊤) : IsReal x := by
  have h1 : x ≠ ⊤ := fun e => by rw [e] at h; simp at h
  have h2 : x ≠ ⊥ := fun e => by rw [e] at h; simp at h
  exact (EReal.coe_toReal h1 h2).symm

/-- The compared float32 constant is infinity. -/
theorem top_f32 : Ideal.ofBits .f32 0x7F800000#32 = ⊤ := by simp [Ideal.ofBits, Ideal.ieee]
/-- The compared bfloat16 constant is infinity. -/
theorem top_bf16 : Ideal.ofBits .bf16 0x7F80#16 = ⊤ := by simp [Ideal.ofBits, Ideal.ieee]

/-- A comparison that answers yes. -/
theorem lt_of_cmp {x y : EReal} (h : Ideal.cmp .olt x y = 1#1) : x < y := by
  by_contra hn
  simp [Ideal.cmp, hn] at h

/-- An integer comparison that answers unequal. -/
theorem ne_of_cmpi {w : ℕ} {x y : BitVec w} (h : IntOp.cmpi .ne x y = 1#1) : x ≠ y := by
  intro e
  rw [e] at h
  simp [IntOp.cmpi] at h

variable [Cert.Pre_finite.Facts]

/-- All ones of the predicate: every argument holds real numbers only. -/
theorem allReal (a0 a1 a2 : IVec Tall 8) (a3 a4 a5 : FVec Ideal Flat .f32) (a6 a7 a8 : FVec Ideal Tall .bf16) (a9 : FVec Ideal Square .f32)
    (h : (Cert.Pre_finite.fn (F := Ideal) a0 a1 a2 a3 a4 a5 a6 a7 a8 a9).1 = (fun _ => 1#1)
      ∧ (Cert.Pre_finite.fn (F := Ideal) a0 a1 a2 a3 a4 a5 a6 a7 a8 a9).2.1 = (fun _ => 1#1)
      ∧ (Cert.Pre_finite.fn (F := Ideal) a0 a1 a2 a3 a4 a5 a6 a7 a8 a9).2.2.1 = (fun _ => 1#1)
      ∧ (Cert.Pre_finite.fn (F := Ideal) a0 a1 a2 a3 a4 a5 a6 a7 a8 a9).2.2.2.1 = (fun _ => 1#1)
      ∧ (Cert.Pre_finite.fn (F := Ideal) a0 a1 a2 a3 a4 a5 a6 a7 a8 a9).2.2.2.2.1 = (fun _ => 1#1)
      ∧ (Cert.Pre_finite.fn (F := Ideal) a0 a1 a2 a3 a4 a5 a6 a7 a8 a9).2.2.2.2.2.1 = (fun _ => 1#1)
      ∧ (Cert.Pre_finite.fn (F := Ideal) a0 a1 a2 a3 a4 a5 a6 a7 a8 a9).2.2.2.2.2.2.1 = (fun _ => 1#1)
      ∧ (Cert.Pre_finite.fn (F := Ideal) a0 a1 a2 a3 a4 a5 a6 a7 a8 a9).2.2.2.2.2.2.2.1 = (fun _ => 1#1)
      ∧ (Cert.Pre_finite.fn (F := Ideal) a0 a1 a2 a3 a4 a5 a6 a7 a8 a9).2.2.2.2.2.2.2.2.1 = (fun _ => 1#1)
      ∧ (Cert.Pre_finite.fn (F := Ideal) a0 a1 a2 a3 a4 a5 a6 a7 a8 a9).2.2.2.2.2.2.2.2.2 = (fun _ => 1#1)) :
    AllReal a0 a1 a2 a3 a4 a5 a6 a7 a8 a9 := by
  obtain ⟨h0, h1, h2, h3, h4, h5, h6, h7, h8, h9⟩ := h
  have f32 : ∀ x : EReal, Ideal.cmp .olt (max x (-x)) (Ideal.ofBits .f32 0x7F800000#32) = 1#1 → IsReal x := fun x hx =>
    isReal_of_abs x (by rw [← top_f32]; exact lt_of_cmp hx)
  have bf16 : ∀ x : EReal, Ideal.cmp .olt (max x (-x)) (Ideal.ofBits .bf16 0x7F80#16) = 1#1 → IsReal x := fun x hx =>
    isReal_of_abs x (by rw [← top_bf16]; exact lt_of_cmp hx)
  exact {
    r := fun i => isReal_code _ (ne_of_cmpi (congrFun h0 i))
    k := fun i => isReal_code _ (ne_of_cmpi (congrFun h1 i))
    v := fun i => isReal_code _ (ne_of_cmpi (congrFun h2 i))
    rs := fun i => f32 _ (congrFun h3 i)
    ks := fun i => f32 _ (congrFun h4 i)
    vs := fun i => f32 _ (congrFun h5 i)
    w := fun i => bf16 _ (congrFun h6 i)
    kk := fun i => bf16 _ (congrFun h7 i)
    ic := fun i => bf16 _ (congrFun h8 i)
    s := fun i => f32 _ (congrFun h9 i) }

end Cert.Data

end
-- ==== Proof.Algebraic.lean ====
/- The value claim: on arguments of real numbers the kernel and the reference leave the same two results. -/
module

public import proofs.«01_k».proof.Defs
public import proofs.«01_k».proof.Proof.Feed
public import proofs.«01_k».proof.Proof.RefOut
public import proofs.«01_k».proof.Proof.Finite
public import proofs.«01_k».proof.Proof.Gen.KernelIdeal.Value
public import proofs.«01_k».proof.Proof.Gen.Pre_finite

@[expose] public section

set_option maxRecDepth 16384

noncomputable section

namespace Cert.Data

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's argument arrays hold real numbers only. -/
abbrev KernelReal : Prop := AllReal (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
/-- The reference's argument arrays hold real numbers only. -/
abbrev RefReal : Prop := AllReal (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9))
/-- The two programs are given the same arrays. -/
abbrev Same : Prop :=
  m' ((c : Thread Cert.ReferenceIdeal.nD Cert.ReferenceIdeal.τ).loc Cert.ReferenceIdeal.main_arg0) = m ((c : Thread Cert.KernelIdeal.nD Cert.KernelIdeal.τ).loc Cert.KernelIdeal.main_arg0)
  ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
  ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
  ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
  ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
  ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
  ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6)
  ∧ m' ((c : Thread Cert.ReferenceIdeal.nD Cert.ReferenceIdeal.τ).loc Cert.ReferenceIdeal.main_arg7) = m ((c : Thread Cert.KernelIdeal.nD Cert.KernelIdeal.τ).loc Cert.KernelIdeal.main_arg7)
  ∧ m' ((c : Thread Cert.ReferenceIdeal.nD Cert.ReferenceIdeal.τ).loc Cert.ReferenceIdeal.main_arg8) = m ((c : Thread Cert.KernelIdeal.nD Cert.KernelIdeal.τ).loc Cert.KernelIdeal.main_arg8)
  ∧ m' ((c : Thread Cert.ReferenceIdeal.nD Cert.ReferenceIdeal.τ).loc Cert.ReferenceIdeal.main_arg9) = m ((c : Thread Cert.KernelIdeal.nD Cert.KernelIdeal.τ).loc Cert.KernelIdeal.main_arg9)

/-- Entry by entry the two first results agree. -/
theorem same0 (H : KernelReal m c) (E : Same m m' c) :
    ((Cert.ReferenceIdeal.Gen.dats m' 0 c).arrAt 10 Cert.ReferenceIdeal.cfg0.N : Vec Ideal Cert.KernelIdeal.S192x64x8192 .bf16) = Cert.KernelIdeal.Value.G10 m c := by
  obtain ⟨e0, e1, e2, e3, e4, e5, e6, e7, e8, e9⟩ := E
  have H' : RefReal m' c := by
    unfold RefReal
    rw [e0, e1, e2, e3, e4, e5, e6, e7, e8, e9]
    exact H
  funext j
  rw [show j = ix3 (j 0) (j 1) (j 2) from funext fun a => by fin_cases a <;> rfl]
  refine (Cert.ReferenceIdeal.Loop.result0 m' c H' (j 0) (j 1) (j 2)).trans ?_
  rw [e0, e1, e2, e3, e4, e5, e6, e7, e8, e9]
  exact (Cert.KernelIdeal.Head.G10_eq (Cert.KernelIdeal.Head.fed m c H) (j 0) (j 1) (j 2)).symm

/-- Entry by entry the two final states agree. -/
theorem same1 (H : KernelReal m c) (E : Same m m' c) :
    ((Cert.ReferenceIdeal.Gen.dats m' 0 c).arrAt 11 Cert.ReferenceIdeal.cfg0.N : Vec Ideal Cert.KernelIdeal.S192x64x64 .f32) = Cert.KernelIdeal.Value.G11 m c := by
  obtain ⟨e0, e1, e2, e3, e4, e5, e6, e7, e8, e9⟩ := E
  have H' : RefReal m' c := by
    unfold RefReal
    rw [e0, e1, e2, e3, e4, e5, e6, e7, e8, e9]
    exact H
  funext j
  rw [show j = ix3 (j 0) (j 1) (j 2) from funext fun a => by fin_cases a <;> rfl]
  refine (Cert.ReferenceIdeal.Loop.result1 m' c H' (j 0) (j 1) (j 2)).trans ?_
  rw [e0, e1, e2, e3, e4, e5, e6, e7, e8, e9]
  exact (Cert.KernelIdeal.Head.G11_eq (Cert.KernelIdeal.Head.fed m c H) (j 0) (j 1) (j 2)).symm

/-- The claim. -/
theorem algebraic : Cert.algebraic_KernelIdeal_ReferenceIdeal_pre_finite := by
  intro m g m' g' hpre hsame
  refine ⟨fun c => Cert.KernelIdeal.Value.G10 m c, fun c => Cert.KernelIdeal.Value.G11 m c, Cert.KernelIdeal.Value.run m g, ?_⟩
  refine (θ_run Cert.ReferenceIdeal.defs _ _).mono (fun r h c => ?_) (Cert.ReferenceIdeal.Value.run_blocks m' g')
  have H : KernelReal m c := allReal _ _ _ _ _ _ _ _ _ _ (hpre c)
  exact ⟨(h c).1.trans (same0 m m' c H (hsame c)), (h c).2.1.trans (same1 m m' c H (hsame c)), (h c).2.2⟩

end Cert.Data

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "neg_log2e" .f32 0xBFB8AA3B#32 _ rfl,
  Cert.Data.algebraic⟩

end Cert.Proof

end
